-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v99)) (v1 : (c : Dev Cert.KernelIdeal.nD) → Buf (Elt Ideal) ((c.tc : Thread Cert.KernelIdeal.nD Cert.KernelIdeal.τ).loc Cert.KernelIdeal.main_v100)) (v2 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_v98) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4x4096x2048 : Shape := ⟨3, ![4, 4096, 2048]⟩
abbrev S2048 : Shape := ⟨1, ![2048]⟩
abbrev S2x2048 : Shape := ⟨2, ![2, 2048]⟩
abbrev S3x2048 : Shape := ⟨2, ![3, 2048]⟩
abbrev S6x2048 : Shape := ⟨2, ![6, 2048]⟩
abbrev S_ : Shape := ⟨0, ![]⟩
abbrev S3 : Shape := ⟨1, ![3]⟩
abbrev S8x3 : Shape := ⟨2, ![8, 3]⟩
abbrev S8 : Shape := ⟨1, ![8]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2x2048 : S_.BroadcastsInDim S2x2048 (![] : Fin 0 → Fin S2x2048.rank)
  reducesTo_S2x2048_S_d0_1 : S2x2048.ReducesTo [0, 1] S_
  bcast_S_S3x2048 : S_.BroadcastsInDim S3x2048 (![] : Fin 0 → Fin S3x2048.rank)
  reducesTo_S3x2048_S_d0_1 : S3x2048.ReducesTo [0, 1] S_
  bcast_S_S6x2048 : S_.BroadcastsInDim S6x2048 (![] : Fin 0 → Fin S6x2048.rank)
  reducesTo_S6x2048_S_d0_1 : S6x2048.ReducesTo [0, 1] S_
  reducesTo_S3_S_d0 : S3.ReducesTo [0] S_
  reducesTo_S8x3_S8_d1 : S8x3.ReducesTo [1] S8
  bcast_S_S8 : S_.BroadcastsInDim S8 (![] : Fin 0 → Fin S8.rank)
  reducesTo_S8_S_d0 : S8.ReducesTo [0] S_

variable [Facts]

def fn_part2 {F : FTy → Type} [FloatOps F] (main_v27 : IVec S_ 1) (main_v32 : IVec S_ 1) : IVec S_ 1 :=
  let main_v33 : IVec S_ 1 := andi main_v27 main_v32
  main_v33

def fn_part1 {F : FTy → Type} [FloatOps F] (main_arg5 : FVec F S6x2048 .f32) (main_arg7 : FVec F S3 .f32) (main_arg8 : FVec F S8x3 .f32) (main_v13 : IVec S_ 1) (main_v16 : IVec S3x2048 1) : IVec S_ 1 :=
  let main_c_5 : IVec S_ 1 := constantI S_ 1 1#1
  let main_v17 : IVec S_ 1 := (fun x v => Host.reduce IntOp.andi x v reducesTo_S3x2048_S_d0_1 h_S_) main_v16 main_c_5
  let main_v18 : IVec S_ 1 := andi main_v13 main_v17
  let main_v19 : FVec F S6x2048 .f32 := Host.absf main_arg5
  let main_cst_6 : FVec F S_ .f32 := constant S_ .f32 0x7F800000#32
  let main_v20 : FVec F S6x2048 .f32 := broadcastInDim S6x2048 ![] bcast_S_S6x2048 main_cst_6
  let main_v21 : IVec S6x2048 1 := cmpf .olt main_v19 main_v20
  let main_c_7 : IVec S_ 1 := constantI S_ 1 1#1
  let main_v22 : IVec S_ 1 := (fun x v => Host.reduce IntOp.andi x v reducesTo_S6x2048_S_d0_1 h_S_) main_v21 main_c_7
  let main_v23 : IVec S_ 1 := andi main_v18 main_v22
  let main_cst_8 : FVec F S_ .f32 := constant S_ .f32 0xFF800000#32
  let main_v24 : FVec F S_ .f32 := (fun x v => Host.reduce FloatOps.maximumf x v reducesTo_S3_S_d0 h_S_) main_arg7 main_cst_8
  let main_v25 : FVec F S_ .f32 := Host.absf main_v24
  let main_cst_9 : FVec F S_ .f32 := constant S_ .f32 0x7F800000#32
  let main_v26 : IVec S_ 1 := cmpf .olt main_v25 main_cst_9
  let main_v27 : IVec S_ 1 := andi main_v23 main_v26
  let main_cst_10 : FVec F S_ .f32 := constant S_ .f32 0xFF800000#32
  let main_v28 : FVec F S8 .f32 := (fun x v => Host.reduce FloatOps.maximumf x v reducesTo_S8x3_S8_d1 h_S_) main_arg8 main_cst_10
  let main_v29 : FVec F S8 .f32 := Host.absf main_v28
  let main_cst_11 : FVec F S_ .f32 := constant S_ .f32 0x7F800000#32
  let main_v30 : FVec F S8 .f32 := broadcastInDim S8 ![] bcast_S_S8 main_cst_11
  let main_v31 : IVec S8 1 := cmpf .olt main_v29 main_v30
  let main_c_12 : IVec S_ 1 := constantI S_ 1 1#1
  let main_v32 : IVec S_ 1 := (fun x v => Host.reduce IntOp.andi x v reducesTo_S8_S_d0 h_S_) main_v31 main_c_12
  fn_part2 (F := F) main_v27 main_v32

def fn {F : FTy → Type} [FloatOps F] (main_arg0 : FVec F S4x4096x2048 .f32) (main_arg1 : FVec F S2048 .f32) (main_arg2 : FVec F S2048 .f32) (main_arg3 : FVec F S2x2048 .f32) (main_arg4 : FVec F S3x2048 .f32) (main_arg5 : FVec F S6x2048 .f32) (main_arg6 : FVec F S_ .f32) (main_arg7 : FVec F S3 .f32) (main_arg8 : FVec F S8x3 .f32) (main_arg9 : FVec F S_ .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2x2048 .f32 := Host.absf main_arg3
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v9 main_v10
  let main_c_3 : IVec S_ 1 := constantI S_ 1 1#1
  let main_v12 : IVec S_ 1 := (fun x v => Host.reduce IntOp.andi x v reducesTo_S2x2048_S_d0_1 h_S_) main_v11 main_c_3
  let main_v13 : IVec S_ 1 := andi main_v8 main_v12
  let main_v14 : FVec F S3x2048 .f32 := Host.absf main_arg4
  let main_cst_4 : FVec F S_ .f32 := constant S_ .f32 0x7F800000#32
  let main_v15 : FVec F S3x2048 .f32 := broadcastInDim S3x2048 ![] bcast_S_S3x2048 main_cst_4
  let main_v16 : IVec S3x2048 1 := cmpf .olt main_v14 main_v15
  fn_part1 (F := F) main_arg5 main_arg7 main_arg8 main_v13 main_v16
-- ==== Kernel.lean ====
abbrev S4x4096x2048 : Shape := ⟨3, ![4, 4096, 2048]⟩
abbrev S2048 : Shape := ⟨1, ![2048]⟩
abbrev S2x2048 : Shape := ⟨2, ![2, 2048]⟩
abbrev S3x2048 : Shape := ⟨2, ![3, 2048]⟩
abbrev S6x2048 : Shape := ⟨2, ![6, 2048]⟩
abbrev S_ : Shape := ⟨0, ![]⟩
abbrev S3 : Shape := ⟨1, ![3]⟩
abbrev S8x3 : Shape := ⟨2, ![8, 3]⟩
abbrev S16x384 : Shape := ⟨2, ![16, 384]⟩
abbrev S1x384 : Shape := ⟨2, ![1, 384]⟩
abbrev S384x6 : Shape := ⟨2, ![384, 6]⟩
abbrev S3x6 : Shape := ⟨2, ![3, 6]⟩
abbrev S384x3 : Shape := ⟨2, ![384, 3]⟩
abbrev S384x8 : Shape := ⟨2, ![384, 8]⟩
abbrev S16384x2048 : Shape := ⟨2, ![16384, 2048]⟩
abbrev S1 : Shape := ⟨1, ![1]⟩
abbrev S11x2048 : Shape := ⟨2, ![11, 2048]⟩
abbrev S1x2048 : Shape := ⟨2, ![1, 2048]⟩
abbrev S2048x11 : Shape := ⟨2, ![2048, 11]⟩
abbrev S2048x5 : Shape := ⟨2, ![2048, 5]⟩
abbrev S2048x16 : Shape := ⟨2, ![2048, 16]⟩
abbrev S16 : Shape := ⟨1, ![16]⟩
abbrev S1x16 : Shape := ⟨2, ![1, 16]⟩
abbrev S11 : Shape := ⟨1, ![11]⟩
abbrev S1x11 : Shape := ⟨2, ![1, 11]⟩
abbrev S1x5 : Shape := ⟨2, ![1, 5]⟩
abbrev S2x16 : Shape := ⟨2, ![2, 16]⟩
abbrev S8 : Shape := ⟨1, ![8]⟩
abbrev S8x1 : Shape := ⟨2, ![8, 1]⟩
abbrev S384x1x6 : Shape := ⟨3, ![384, 1, 6]⟩
abbrev S1x3x6 : Shape := ⟨3, ![1, 3, 6]⟩
abbrev S384x3x6 : Shape := ⟨3, ![384, 3, 6]⟩
abbrev S384x8x1 : Shape := ⟨3, ![384, 8, 1]⟩
abbrev S1x8x3 : Shape := ⟨3, ![1, 8, 3]⟩
abbrev S384x8x3 : Shape := ⟨3, ![384, 8, 3]⟩
abbrev S16384x3 : Shape := ⟨2, ![16384, 3]⟩
abbrev S16384x64 : Shape := ⟨2, ![16384, 64]⟩
abbrev S8x2x128 : Shape := ⟨3, ![8, 2, 128]⟩
abbrev S2048x2048 : Shape := ⟨2, ![2048, 2048]⟩
abbrev S2048x3 : Shape := ⟨2, ![2048, 3]⟩
abbrev S2048x64 : Shape := ⟨2, ![2048, 64]⟩
abbrev S1x2x128 : Shape := ⟨3, ![1, 2, 128]⟩
abbrev S2048x1 : Shape := ⟨2, ![2048, 1]⟩
abbrev S2048x384 : Shape := ⟨2, ![2048, 384]⟩
abbrev S2048x128 : Shape := ⟨2, ![2048, 128]⟩
abbrev S128 : Shape := ⟨1, ![128]⟩
abbrev S1x128 : Shape := ⟨2, ![1, 128]⟩
abbrev S1x3 : Shape := ⟨2, ![1, 3]⟩
abbrev S1x125 : Shape := ⟨2, ![1, 125]⟩
abbrev S2x128 : Shape := ⟨2, ![2, 128]⟩
abbrev S1x64 : Shape := ⟨2, ![1, 64]⟩
abbrev S64 : Shape := ⟨1, ![64]⟩
abbrev S4x4096x3 : Shape := ⟨3, ![4, 4096, 3]⟩
abbrev S4x4096x64 : Shape := ⟨3, ![4, 4096, 64]⟩

abbrev nBuf : Space → Nat
  | .hbm => 148
  | .vmem => 13
  | .smem => 0
  | _ => 0

abbrev hbmTy0_0 (i : Nat) : BufTy := match i % 128 with
  | 0 => ⟨S4x4096x2048, .f32⟩
  | 1 => ⟨S2048, .f32⟩
  | 2 => ⟨S2048, .f32⟩
  | 3 => ⟨S2x2048, .f32⟩
  | 4 => ⟨S3x2048, .f32⟩
  | 5 => ⟨S6x2048, .f32⟩
  | 6 => ⟨S_, .f32⟩
  | 7 => ⟨S3, .f32⟩
  | 8 => ⟨S8x3, .f32⟩
  | 9 => ⟨S_, .f32⟩
  | 10 => ⟨S16x384, .f32⟩
  | 11 => ⟨S1x384, .f32⟩
  | 12 => ⟨S384x6, .f32⟩
  | 13 => ⟨S3x6, .f32⟩
  | 14 => ⟨S384x3, .f32⟩
  | 15 => ⟨S384x8, .f32⟩
  | 16 => ⟨S384x3, .f32⟩
  | 17 => ⟨S16384x2048, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S1, .f32⟩
  | 30 => ⟨S3, .f32⟩
  | 31 => ⟨S3, .f32⟩
  | 32 => ⟨S3, .f32⟩
  | 33 => ⟨S_, .f32⟩
  | 34 => ⟨S_, .f32⟩
  | 35 => ⟨S1, .f32⟩
  | 36 => ⟨S3, .f32⟩
  | 37 => ⟨S3, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S11x2048, .f32⟩
  | 45 => ⟨S1x2048, .f32⟩
  | 46 => ⟨S11x2048, .f32⟩
  | 47 => ⟨S11x2048, .f32⟩
  | 48 => ⟨S2048x11, .f32⟩
  | 49 => ⟨S_, .f32⟩
  | 50 => ⟨S2048x5, .f32⟩
  | 51 => ⟨S2048x16, .f32⟩
  | 52 => ⟨S_, .f32⟩
  | 53 => ⟨S16, .f32⟩
  | 54 => ⟨S1x16, .f32⟩
  | 55 => ⟨S11, .f32⟩
  | 56 => ⟨S1x11, .f32⟩
  | 57 => ⟨S_, .f32⟩
  | 58 => ⟨S1x5, .f32⟩
  | 59 => ⟨S1x16, .f32⟩
  | 60 => ⟨S2x16, .f32⟩
  | 61 => ⟨S_, .f32⟩
  | 62 => ⟨S_, .f32⟩
  | 63 => ⟨S16x384, .f32⟩
  | 64 => ⟨S16x384, .f32⟩
  | 65 => ⟨S_, .f32⟩
  | 66 => ⟨S8, .f32⟩
  | 67 => ⟨S_, .f32⟩
  | 68 => ⟨S8, .f32⟩
  | 69 => ⟨S8, .f32⟩
  | 70 => ⟨S8x1, .f32⟩
  | 71 => ⟨S8x3, .f32⟩
  | 72 => ⟨S8x3, .f32⟩
  | 73 => ⟨S8x3, .f32⟩
  | 74 => ⟨S_, .f32⟩
  | 75 => ⟨S8, .f32⟩
  | 76 => ⟨S8x1, .f32⟩
  | 77 => ⟨S8x3, .f32⟩
  | 78 => ⟨S8x3, .f32⟩
  | 79 => ⟨S384x1x6, .f32⟩
  | 80 => ⟨S1x3x6, .f32⟩
  | 81 => ⟨S384x3x6, .f32⟩
  | 82 => ⟨S384x3x6, .f32⟩
  | 83 => ⟨S384x3x6, .f32⟩
  | 84 => ⟨S_, .f32⟩
  | 85 => ⟨S384x3, .f32⟩
  | 86 => ⟨S1, .f32⟩
  | 87 => ⟨S_, .f32⟩
  | 88 => ⟨S384x3, .f32⟩
  | 89 => ⟨S384x3, .f32⟩
  | 90 => ⟨S1, .f32⟩
  | 91 => ⟨S_, .f32⟩
  | 92 => ⟨S384x8x1, .f32⟩
  | 93 => ⟨S1x8x3, .f32⟩
  | 94 => ⟨S384x8x3, .f32⟩
  | 95 => ⟨S384x8x3, .f32⟩
  | 96 => ⟨S384x8x3, .f32⟩
  | 97 => ⟨S_, .f32⟩
  | 98 => ⟨S384x3, .f32⟩
  | 99 => ⟨S384x3, .f32⟩
  | 100 => ⟨S384x3, .f32⟩
  | 101 => ⟨S384x3, .f32⟩
  | 102 => ⟨S1, .f32⟩
  | 103 => ⟨S_, .f32⟩
  | 104 => ⟨S_, .f32⟩
  | 105 => ⟨S_, .f32⟩
  | 106 => ⟨S384x3, .f32⟩
  | 107 => ⟨S384x3, .f32⟩
  | 108 => ⟨S384x3, .f32⟩
  | 109 => ⟨S384x3, .f32⟩
  | 110 => ⟨S384x3, .f32⟩
  | 111 => ⟨S384x3, .f32⟩
  | 112 => ⟨S384x3, .f32⟩
  | 113 => ⟨S384x3, .f32⟩
  | 114 => ⟨S16384x3, .f32⟩
  | 115 => ⟨S16384x64, .f32⟩
  | 116 => ⟨S8x2x128, .f32⟩
  | 117 => ⟨S_, .f32⟩
  | 118 => ⟨S2x128, .f32⟩
  | 119 => ⟨S1x64, .f32⟩
  | 120 => ⟨S64, .f32⟩
  | 121 => ⟨S_, .f32⟩
  | 122 => ⟨S64, .f32⟩
  | 123 => ⟨S64, .f32⟩
  | 124 => ⟨S1x3, .f32⟩
  | 125 => ⟨S3, .f32⟩
  | 126 => ⟨S_, .f32⟩
  | 127 => ⟨S3, .f32⟩
  | _ => ⟨S4x4096x2048, .f32⟩

abbrev hbmTy0_1 (i : Nat) : BufTy := match i % 128 with
  | 0 => ⟨S3, .f32⟩
  | 1 => ⟨S_, .f32⟩
  | 2 => ⟨S3, .f32⟩
  | 3 => ⟨S3, .f32⟩
  | 4 => ⟨S3, .f32⟩
  | 5 => ⟨S3, .f32⟩
  | 6 => ⟨S_, .f32⟩
  | 7 => ⟨S_, .f32⟩
  | 8 => ⟨S_, .f32⟩
  | 9 => ⟨S64, .f32⟩
  | 10 => ⟨S64, .f32⟩
  | 11 => ⟨S64, .f32⟩
  | 12 => ⟨S64, .f32⟩
  | 13 => ⟨S_, .f32⟩
  | 14 => ⟨S_, .f32⟩
  | 15 => ⟨S_, .f32⟩
  | 16 => ⟨S_, .f32⟩
  | 17 => ⟨S_, .f32⟩
  | 18 => ⟨S4x4096x3, .f32⟩
  | 19 => ⟨S4x4096x64, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | .local _ .vmem, ⟨0, _⟩ => ⟨S2048x2048, .f32⟩
  | .local _ .vmem, ⟨1, _⟩ => ⟨S2048x2048, .f32⟩
  | .local _ .vmem, ⟨2, _⟩ => ⟨S2048x16, .f32⟩
  | .local _ .vmem, ⟨3, _⟩ => ⟨S2x16, .f32⟩
  | .local _ .vmem, ⟨4, _⟩ => ⟨S16x384, .f32⟩
  | .local _ .vmem, ⟨5, _⟩ => ⟨S1x384, .f32⟩
  | .local _ .vmem, ⟨6, _⟩ => ⟨S384x3, .f32⟩
  | .local _ .vmem, ⟨7, _⟩ => ⟨S2048x3, .f32⟩
  | .local _ .vmem, ⟨8, _⟩ => ⟨S2048x3, .f32⟩
  | .local _ .vmem, ⟨9, _⟩ => ⟨S2048x64, .f32⟩
  | .local _ .vmem, ⟨10, _⟩ => ⟨S2048x64, .f32⟩
  | .local _ .vmem, ⟨11, _⟩ => ⟨S1x2x128, .f32⟩
  | .local _ .vmem, ⟨12, _⟩ => ⟨S1x2x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_cst_2 : Ref sig .tc := ⟨.hbm, 13, rfl⟩
abbrev main_cst_3 : Ref sig .tc := ⟨.hbm, 14, rfl⟩
abbrev main_cst_4 : Ref sig .tc := ⟨.hbm, 15, rfl⟩
abbrev main_cst_5 : Ref sig .tc := ⟨.hbm, 16, rfl⟩
abbrev main_v0 : Ref sig .tc := ⟨.hbm, 17, rfl⟩
abbrev main_v1 : Ref sig .tc := ⟨.hbm, 18, rfl⟩
abbrev main_cst_6 : Ref sig .tc := ⟨.hbm, 19, rfl⟩
abbrev main_cst_7 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v2 : Ref sig .tc := ⟨.hbm, 24, rfl⟩
abbrev main_cst_8 : Ref sig .tc := ⟨.hbm, 25, rfl⟩
abbrev main_v3 : Ref sig .tc := ⟨.hbm, 26, rfl⟩
abbrev main_cst_9 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_10 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_11 : Ref sig .tc := ⟨.hbm, 40, rfl⟩
abbrev main_v15 : Ref sig .tc := ⟨.hbm, 41, rfl⟩
abbrev main_cst_12 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_13 : Ref sig .tc := ⟨.hbm, 49, rfl⟩
abbrev main_v22 : Ref sig .tc := ⟨.hbm, 50, rfl⟩
abbrev main_v23 : Ref sig .tc := ⟨.hbm, 51, rfl⟩
abbrev main_cst_14 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_15 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_16 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_17 : Ref sig .tc := ⟨.hbm, 65, rfl⟩
abbrev main_v34 : Ref sig .tc := ⟨.hbm, 66, rfl⟩
abbrev main_cst_18 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_19 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_20 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_21 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_22 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77_0 : Ref sig .tc := ⟨.hbm, 114, rfl⟩
abbrev main_v77_1 : Ref sig .tc := ⟨.hbm, 115, rfl⟩
abbrev main_v77_2 : Ref sig .tc := ⟨.hbm, 116, rfl⟩
abbrev main_cst_23 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_24 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_25 : Ref sig .tc := ⟨.hbm, 126, rfl⟩
abbrev main_v85 : Ref sig .tc := ⟨.hbm, 127, rfl⟩
abbrev main_v86 : Ref sig .tc := ⟨.hbm, 128, rfl⟩
abbrev main_cst_26 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_27 : Ref sig .tc := ⟨.hbm, 134, rfl⟩
abbrev main_v91 : Ref sig .tc := ⟨.hbm, 135, rfl⟩
abbrev main_cst_28 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_29 : Ref sig .tc := ⟨.hbm, 141, rfl⟩
abbrev main_v96 : Ref sig .tc := ⟨.hbm, 142, rfl⟩
abbrev main_cst_30 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4x4096x2048 : Shape := ⟨3, ![4, 4096, 2048]⟩
abbrev S2048 : Shape := ⟨1, ![2048]⟩
abbrev S2x2048 : Shape := ⟨2, ![2, 2048]⟩
abbrev S3x2048 : Shape := ⟨2, ![3, 2048]⟩
abbrev S6x2048 : Shape := ⟨2, ![6, 2048]⟩
abbrev S_ : Shape := ⟨0, ![]⟩
abbrev S3 : Shape := ⟨1, ![3]⟩
abbrev S8x3 : Shape := ⟨2, ![8, 3]⟩
abbrev S64x6 : Shape := ⟨2, ![64, 6]⟩
abbrev S4x2 : Shape := ⟨2, ![4, 2]⟩
abbrev S4x3 : Shape := ⟨2, ![4, 3]⟩
abbrev S3x6 : Shape := ⟨2, ![3, 6]⟩
abbrev S64x3 : Shape := ⟨2, ![64, 3]⟩
abbrev S4x4096 : Shape := ⟨2, ![4, 4096]⟩
abbrev S4x4096x1 : Shape := ⟨3, ![4, 4096, 1]⟩
abbrev S1x1x2048 : Shape := ⟨3, ![1, 1, 2048]⟩
abbrev S2048x2 : Shape := ⟨2, ![2048, 2]⟩
abbrev S4x4096x2 : Shape := ⟨3, ![4, 4096, 2]⟩
abbrev S2x4 : Shape := ⟨2, ![2, 4]⟩
abbrev S4x4096x4 : Shape := ⟨3, ![4, 4096, 4]⟩
abbrev S4x4096x3 : Shape := ⟨3, ![4, 4096, 3]⟩
abbrev S2048x3 : Shape := ⟨2, ![2048, 3]⟩
abbrev S3x8 : Shape := ⟨2, ![3, 8]⟩
abbrev S4x4096x8 : Shape := ⟨3, ![4, 4096, 8]⟩
abbrev S8 : Shape := ⟨1, ![8]⟩
abbrev S8x1 : Shape := ⟨2, ![8, 1]⟩
abbrev S2048x6 : Shape := ⟨2, ![2048, 6]⟩
abbrev S4x4096x6 : Shape := ⟨3, ![4, 4096, 6]⟩
abbrev S6x64 : Shape := ⟨2, ![6, 64]⟩
abbrev S4x4096x64 : Shape := ⟨3, ![4, 4096, 64]⟩
abbrev S6x3 : Shape := ⟨2, ![6, 3]⟩
abbrev S1 : Shape := ⟨1, ![1]⟩
abbrev S64 : Shape := ⟨1, ![64]⟩

abbrev nBuf : Space → Nat
  | .hbm => 216
  | .vmem => 0
  | .smem => 0
  | _ => 0

abbrev hbmTy0_0 (i : Nat) : BufTy := match i % 128 with
  | 0 => ⟨S4x4096x2048, .f32⟩
  | 1 => ⟨S2048, .f32⟩
  | 2 => ⟨S2048, .f32⟩
  | 3 => ⟨S2x2048, .f32⟩
  | 4 => ⟨S3x2048, .f32⟩
  | 5 => ⟨S6x2048, .f32⟩
  | 6 => ⟨S_, .f32⟩
  | 7 => ⟨S3, .f32⟩
  | 8 => ⟨S8x3, .f32⟩
  | 9 => ⟨S_, .f32⟩
  | 10 => ⟨S64x6, .f32⟩
  | 11 => ⟨S4x2, .f32⟩
  | 12 => ⟨S8x3, .f32⟩
  | 13 => ⟨S4x3, .f32⟩
  | 14 => ⟨S3x6, .f32⟩
  | 15 => ⟨S64x3, .f32⟩
  | 16 => ⟨S_, .f32⟩
  | 17 => ⟨S4x4096, .f32⟩
  | 18 => ⟨S4x4096x1, .f32⟩
  | 19 => ⟨S_, .f32⟩
  | 20 => ⟨S4x4096x1, .f32⟩
  | 21 => ⟨S4x4096x1, .f32⟩
  | 22 => ⟨S4x4096x2048, .f32⟩
  | 23 => ⟨S4x4096x2048, .f32⟩
  | 24 => ⟨S4x4096x2048, .f32⟩
  | 25 => ⟨S_, .f32⟩
  | 26 => ⟨S4x4096, .f32⟩
  | 27 => ⟨S4x4096x1, .f32⟩
  | 28 => ⟨S_, .f32⟩
  | 29 => ⟨S4x4096x1, .f32⟩
  | 30 => ⟨S4x4096x1, .f32⟩
  | 31 => ⟨S4x4096x2048, .f32⟩
  | 32 => ⟨S4x4096x2048, .f32⟩
  | 33 => ⟨S_, .f32⟩
  | 34 => ⟨S4x4096x1, .f32⟩
  | 35 => ⟨S4x4096x1, .f32⟩
  | 36 => ⟨S4x4096x1, .f32⟩
  | 37 => ⟨S4x4096x2048, .f32⟩
  | 38 => ⟨S4x4096x2048, .f32⟩
  | 39 => ⟨S1x1x2048, .f32⟩
  | 40 => ⟨S4x4096x2048, .f32⟩
  | 41 => ⟨S4x4096x2048, .f32⟩
  | 42 => ⟨S1x1x2048, .f32⟩
  | 43 => ⟨S4x4096x2048, .f32⟩
  | 44 => ⟨S4x4096x2048, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S2048x2, .f32⟩
  | 53 => ⟨S4x4096x2, .f32⟩
  | 54 => ⟨S4x4096x2, .f32⟩
  | 55 => ⟨S2x4, .f32⟩
  | 56 => ⟨S4x4096x4, .f32⟩
  | 57 => ⟨S4x4096x4, .f32⟩
  | 58 => ⟨S4x4096x4, .f32⟩
  | 59 => ⟨S_, .f32⟩
  | 60 => ⟨S4x4096, .f32⟩
  | 61 => ⟨S_, .f32⟩
  | 62 => ⟨S4x4096, .f32⟩
  | 63 => ⟨S4x4096, .f32⟩
  | 64 => ⟨S4x4096x1, .f32⟩
  | 65 => ⟨S4x4096x4, .f32⟩
  | 66 => ⟨S4x4096x4, .f32⟩
  | 67 => ⟨S4x4096x4, .f32⟩
  | 68 => ⟨S_, .f32⟩
  | 69 => ⟨S4x4096, .f32⟩
  | 70 => ⟨S4x4096x1, .f32⟩
  | 71 => ⟨S4x4096x4, .f32⟩
  | 72 => ⟨S4x4096x4, .f32⟩
  | 73 => ⟨S4x4096x3, .f32⟩
  | 74 => ⟨S2048x3, .f32⟩
  | 75 => ⟨S4x4096x3, .f32⟩
  | 76 => ⟨S4x4096x3, .f32⟩
  | 77 => ⟨S3x8, .f32⟩
  | 78 => ⟨S4x4096x8, .f32⟩
  | 79 => ⟨S4x4096x8, .f32⟩
  | 80 => ⟨S4x4096x8, .f32⟩
  | 81 => ⟨S_, .f32⟩
  | 82 => ⟨S4x4096, .f32⟩
  | 83 => ⟨S_, .f32⟩
  | 84 => ⟨S4x4096, .f32⟩
  | 85 => ⟨S4x4096, .f32⟩
  | 86 => ⟨S4x4096x1, .f32⟩
  | 87 => ⟨S4x4096x8, .f32⟩
  | 88 => ⟨S4x4096x8, .f32⟩
  | 89 => ⟨S4x4096x8, .f32⟩
  | 90 => ⟨S_, .f32⟩
  | 91 => ⟨S4x4096, .f32⟩
  | 92 => ⟨S4x4096x1, .f32⟩
  | 93 => ⟨S4x4096x8, .f32⟩
  | 94 => ⟨S4x4096x8, .f32⟩
  | 95 => ⟨S_, .f32⟩
  | 96 => ⟨S8, .f32⟩
  | 97 => ⟨S_, .f32⟩
  | 98 => ⟨S8, .f32⟩
  | 99 => ⟨S8, .f32⟩
  | 100 => ⟨S8x1, .f32⟩
  | 101 => ⟨S8x3, .f32⟩
  | 102 => ⟨S8x3, .f32⟩
  | 103 => ⟨S8x3, .f32⟩
  | 104 => ⟨S_, .f32⟩
  | 105 => ⟨S8, .f32⟩
  | 106 => ⟨S8x1, .f32⟩
  | 107 => ⟨S8x3, .f32⟩
  | 108 => ⟨S8x3, .f32⟩
  | 109 => ⟨S4x4096x3, .f32⟩
  | 110 => ⟨S2048x6, .f32⟩
  | 111 => ⟨S4x4096x6, .f32⟩
  | 112 => ⟨S4x4096x6, .f32⟩
  | 113 => ⟨S6x64, .f32⟩
  | 114 => ⟨S4x4096x64, .f32⟩
  | 115 => ⟨S4x4096x64, .f32⟩
  | 116 => ⟨S4x4096x64, .f32⟩
  | 117 => ⟨S_, .f32⟩
  | 118 => ⟨S4x4096, .f32⟩
  | 119 => ⟨S_, .f32⟩
  | 120 => ⟨S4x4096, .f32⟩
  | 121 => ⟨S4x4096, .f32⟩
  | 122 => ⟨S4x4096x1, .f32⟩
  | 123 => ⟨S4x4096x64, .f32⟩
  | 124 => ⟨S4x4096x64, .f32⟩
  | 125 => ⟨S4x4096x64, .f32⟩
  | 126 => ⟨S_, .f32⟩
  | 127 => ⟨S4x4096, .f32⟩
  | _ => ⟨S4x4096x2048, .f32⟩

abbrev hbmTy0_1 (i : Nat) : BufTy := match i % 128 with
  | 0 => ⟨S4x4096x1, .f32⟩
  | 1 => ⟨S4x4096x64, .f32⟩
  | 2 => ⟨S4x4096x64, .f32⟩
  | 3 => ⟨S4x4096x6, .f32⟩
  | 4 => ⟨S6x3, .f32⟩
  | 5 => ⟨S4x4096x3, .f32⟩
  | 6 => ⟨S4x4096x3, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S4x4096x3, .f32⟩
  | 16 => ⟨S4x4096x3, .f32⟩
  | 17 => ⟨S4x4096x3, .f32⟩
  | 18 => ⟨S4x4096x3, .f32⟩
  | 19 => ⟨S4x4096x3, .f32⟩
  | 20 => ⟨S_, .f32⟩
  | 21 => ⟨S_, .f32⟩
  | 22 => ⟨S_, .f32⟩
  | 23 => ⟨S_, .f32⟩
  | 24 => ⟨S1, .f32⟩
  | 25 => ⟨S3, .f32⟩
  | 26 => ⟨S3, .f32⟩
  | 27 => ⟨S3, .f32⟩
  | 28 => ⟨S_, .f32⟩
  | 29 => ⟨S_, .f32⟩
  | 30 => ⟨S1, .f32⟩
  | 31 => ⟨S3, .f32⟩
  | 32 => ⟨S3, .f32⟩
  | 33 => ⟨S1, .f32⟩
  | 34 => ⟨S_, .f32⟩
  | 35 => ⟨S4x4096x3, .f32⟩
  | 36 => ⟨S4x4096x3, .f32⟩
  | 37 => ⟨S1, .f32⟩
  | 38 => ⟨S_, .f32⟩
  | 39 => ⟨S4x4096x3, .f32⟩
  | 40 => ⟨S4x4096x3, .f32⟩
  | 41 => ⟨S4x4096x3, .f32⟩
  | 42 => ⟨S1, .f32⟩
  | 43 => ⟨S_, .f32⟩
  | 44 => ⟨S4x4096x3, .f32⟩
  | 45 => ⟨S4x4096x3, .f32⟩
  | 46 => ⟨S4x4096x3, .f32⟩
  | 47 => ⟨S_, .f32⟩
  | 48 => ⟨S4x4096, .f32⟩
  | 49 => ⟨S_, .f32⟩
  | 50 => ⟨S4x4096, .f32⟩
  | 51 => ⟨S4x4096, .f32⟩
  | 52 => ⟨S4x4096x1, .f32⟩
  | 53 => ⟨S4x4096x3, .f32⟩
  | 54 => ⟨S4x4096x3, .f32⟩
  | 55 => ⟨S4x4096x3, .f32⟩
  | 56 => ⟨S_, .f32⟩
  | 57 => ⟨S4x4096, .f32⟩
  | 58 => ⟨S4x4096x1, .f32⟩
  | 59 => ⟨S4x4096x3, .f32⟩
  | 60 => ⟨S4x4096x3, .f32⟩
  | 61 => ⟨S_, .f32⟩
  | 62 => ⟨S3, .f32⟩
  | 63 => ⟨S_, .f32⟩
  | 64 => ⟨S3, .f32⟩
  | 65 => ⟨S3, .f32⟩
  | 66 => ⟨S_, .f32⟩
  | 67 => ⟨S64, .f32⟩
  | 68 => ⟨S_, .f32⟩
  | 69 => ⟨S64, .f32⟩
  | 70 => ⟨S64, .f32⟩
  | 71 => ⟨S_, .f32⟩
  | 72 => ⟨S3, .f32⟩
  | 73 => ⟨S3, .f32⟩
  | 74 => ⟨S3, .f32⟩
  | 75 => ⟨S3, .f32⟩
  | 76 => ⟨S_, .f32⟩
  | 77 => ⟨S_, .f32⟩
  | 78 => ⟨S_, .f32⟩
  | 79 => ⟨S64, .f32⟩
  | 80 => ⟨S64, .f32⟩
  | 81 => ⟨S64, .f32⟩
  | 82 => ⟨S64, .f32⟩
  | 83 => ⟨S_, .f32⟩
  | 84 => ⟨S_, .f32⟩
  | 85 => ⟨S_, .f32⟩
  | 86 => ⟨S_, .f32⟩
  | 87 => ⟨S_, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_cst_2 : Ref sig .tc := ⟨.hbm, 13, rfl⟩
abbrev main_cst_3 : Ref sig .tc := ⟨.hbm, 14, rfl⟩
abbrev main_cst_4 : Ref sig .tc := ⟨.hbm, 15, rfl⟩
abbrev main_cst_5 : Ref sig .tc := ⟨.hbm, 16, rfl⟩
abbrev main_v0 : Ref sig .tc := ⟨.hbm, 17, rfl⟩
abbrev main_v1 : Ref sig .tc := ⟨.hbm, 18, rfl⟩
abbrev main_cst_6 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_7 : Ref sig .tc := ⟨.hbm, 25, rfl⟩
abbrev main_v7 : Ref sig .tc := ⟨.hbm, 26, rfl⟩
abbrev main_v8 : Ref sig .tc := ⟨.hbm, 27, rfl⟩
abbrev main_cst_8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_9 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_10 : Ref sig .tc := ⟨.hbm, 46, rfl⟩
abbrev main_cst_11 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_12 : Ref sig .tc := ⟨.hbm, 59, rfl⟩
abbrev main_v33 : Ref sig .tc := ⟨.hbm, 60, rfl⟩
abbrev main_cst_13 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_14 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_15 : Ref sig .tc := ⟨.hbm, 81, rfl⟩
abbrev main_v52 : Ref sig .tc := ⟨.hbm, 82, rfl⟩
abbrev main_cst_16 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_17 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_18 : Ref sig .tc := ⟨.hbm, 95, rfl⟩
abbrev main_v63 : Ref sig .tc := ⟨.hbm, 96, rfl⟩
abbrev main_cst_19 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_20 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_21 : Ref sig .tc := ⟨.hbm, 117, rfl⟩
abbrev main_v82 : Ref sig .tc := ⟨.hbm, 118, rfl⟩
abbrev main_cst_22 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_23 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_24 : Ref sig .tc := ⟨.hbm, 137, rfl⟩
abbrev main_v99 : Ref sig .tc := ⟨.hbm, 138, rfl⟩
abbrev main_cst_25 : Ref sig .tc := ⟨.hbm, 139, rfl⟩
abbrev main_v100 : Ref sig .tc := ⟨.hbm, 140, rfl⟩
abbrev main_cst_26 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_27 : Ref sig .tc := ⟨.hbm, 148, rfl⟩
abbrev main_v107 : Ref sig .tc := ⟨.hbm, 149, rfl⟩
abbrev main_cst_28 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_29 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_30 : Ref sig .tc := ⟨.hbm, 175, rfl⟩
abbrev main_v131 : Ref sig .tc := ⟨.hbm, 176, rfl⟩
abbrev main_cst_31 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_32 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_33 : Ref sig .tc := ⟨.hbm, 189, rfl⟩
abbrev main_v142 : Ref sig .tc := ⟨.hbm, 190, rfl⟩
abbrev main_cst_34 : Ref sig .tc := ⟨.hbm, 191, rfl⟩
abbrev main_v143 : Ref sig .tc := ⟨.hbm, 192, rfl⟩
abbrev main_v144 : Ref sig .tc := ⟨.hbm, 193, rfl⟩
abbrev main_cst_35 : Ref sig .tc := ⟨.hbm, 194, rfl⟩
abbrev main_v145 : Ref sig .tc := ⟨.hbm, 195, rfl⟩
abbrev main_cst_36 : Ref sig .tc := ⟨.hbm, 196, rfl⟩
abbrev main_v146 : Ref sig .tc := ⟨.hbm, 197, rfl⟩
abbrev main_v147 : Ref sig .tc := ⟨.hbm, 198, rfl⟩
abbrev main_cst_37 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_38 : Ref sig .tc := ⟨.hbm, 204, rfl⟩
abbrev main_v152 : Ref sig .tc := ⟨.hbm, 205, rfl⟩
abbrev main_cst_39 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_40 : Ref sig .tc := ⟨.hbm, 211, rfl⟩
abbrev main_v157 : Ref sig .tc := ⟨.hbm, 212, rfl⟩
abbrev main_cst_41 : Ref sig .tc := ⟨.hbm, 213, rfl⟩
abbrev main_v158 : Ref sig .tc := ⟨.hbm, 214, rfl⟩
abbrev main_v159 : Ref sig .tc := ⟨.hbm, 215, rfl⟩

abbrev nD : Nat := 1
abbrev τ : Topo := Topo.v7x

variable {F : FTy → Type} [FloatOps F]
-- ==== Proof.Softmax.lean ====
/- A softmax over the extended reals, in the two spellings of the programs: the exponentials divided by their sum, and the
   exponentials multiplied by the reciprocal of their sum. Both are the real number `share l i`. A lane that holds −∞ has
   weight zero, so a softmax over padded lanes is the softmax over the lanes that are not padding. -/
module

public import Idealize.ShloMosaic.PureOps.Ideal
public import Idealize.ShloMosaic.Lib.Pointwise

@[expose] public section

noncomputable section

namespace Cert.Router

open Idealize.ShloMosaic

/-- A finite sum of reals, read as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of a family over a larger index set, when the family is zero outside the image of an injective map. -/
theorem sum_embed {ι κ M : Type*} [Fintype ι] [Fintype κ] [AddCommMonoid M] (e : ι → κ) (he : Function.Injective e)
    (f : κ → M) (h0 : ∀ k, k ∉ Set.range e → f k = 0) : ∑ k, f k = ∑ i, f (e i) :=
  (Fintype.sum_of_injective e he (fun i => f (e i)) f h0 fun _ => rfl).symm

/-- The weight of a logit: its exponential, a real number (zero at −∞). -/
def weight (l : EReal) : ℝ := (Ideal.exp l).toReal

/-- The softmax of the logits `l` at the lane `i`. -/
def share {ι : Type*} [Fintype ι] (l : ι → EReal) (i : ι) : ℝ := weight (l i) / ∑ j, weight (l j)

/-- Minus infinity weighs nothing. -/
@[simp] theorem weight_bot : weight ⊥ = 0 := by simp [weight]

/-- No weight is negative. -/
theorem weight_nonneg (l : EReal) : 0 ≤ weight l := by
  induction l using EReal.rec with
  | bot => simp [weight]
  | coe r => simp [weight, (Real.exp_pos r).le]
  | top => simp [weight]

/-- A logit that is a real number has a positive weight. -/
theorem weight_pos {l : EReal} (h1 : l ≠ ⊤) (h2 : l ≠ ⊥) : 0 < weight l := by
  induction l using EReal.rec with
  | bot => exact absurd rfl h2
  | coe r => simp [weight, Real.exp_pos r]
  | top => exact absurd rfl h1

/-- The exponential of a logit less a real shift is its weight scaled by the exponential of the shift. -/
theorem exp_sub_coe {l : EReal} (h : l ≠ ⊤) (M : ℝ) :
    Ideal.exp (l - (M : EReal)) = ((weight l * Real.exp (-M) : ℝ) : EReal) := by
  induction l using EReal.rec with
  | bot => simp [weight]
  | coe r =>
    rw [← EReal.coe_sub, Ideal.exp_coe]
    simp [weight, sub_eq_add_neg, Real.exp_add]
  | top => exact absurd rfl h

/-- The largest of finitely many logits, none of them +∞ and one of them not −∞, is a real number. -/
theorem fold_max_real {ι : Type*} [Fintype ι] (l : ι → EReal) (h1 : ∀ i, l i ≠ ⊤) (h2 : ∃ i, l i ≠ ⊥) :
    ∃ M : ℝ, Finset.fold max ⊥ l Finset.univ = (M : EReal) := by
  obtain ⟨i, hi⟩ := h2
  have hle : ∀ j, l j ≤ Finset.fold max ⊥ l Finset.univ := fun j =>
    (Finset.le_fold_max _).2 (.inr ⟨j, Finset.mem_univ j, le_rfl⟩)
  have hbot : Finset.fold max ⊥ l Finset.univ ≠ ⊥ := fun h => hi (le_bot_iff.1 (h ▸ hle i))
  have htop : Finset.fold max ⊥ l Finset.univ ≠ ⊤ := by
    intro h
    have hlt : Finset.fold max ⊥ l Finset.univ < ⊤ :=
      (Finset.fold_max_lt _).2 ⟨bot_lt_top, fun j _ => lt_top_iff_ne_top.2 (h1 j)⟩
    exact absurd h hlt.ne
  exact ⟨_, (EReal.coe_toReal htop hbot).symm⟩

/-- If the largest of finitely many values is a real number, none of them is +∞. -/
theorem ne_top_of_fold {ι : Type*} [Fintype ι] {l : ι → EReal} (h : Finset.fold max ⊥ l Finset.univ ≠ ⊤) (i : ι) :
    l i ≠ ⊤ := by
  intro hi
  have hle : l i ≤ Finset.fold max ⊥ l Finset.univ := (Finset.le_fold_max _).2 (.inr ⟨i, Finset.mem_univ i, le_rfl⟩)
  rw [hi] at hle
  exact h (top_le_iff.1 hle)

/-- If the largest of finitely many values is not −∞, one of them is not. -/
theorem exists_ne_bot_of_fold {ι : Type*} [Fintype ι] {l : ι → EReal} (h : Finset.fold max ⊥ l Finset.univ ≠ ⊥) :
    ∃ i, l i ≠ ⊥ := by
  by_contra hc
  push Not at hc
  apply h
  rw [← le_bot_iff]
  exact (Finset.fold_max_le _).2 ⟨le_rfl, fun j _ => (hc j).le⟩

/-- The weights do not all vanish where some logit is not minus infinity. -/
theorem sum_weight_pos {ι : Type*} [Fintype ι] {l : ι → EReal} (h1 : ∀ i, l i ≠ ⊤) (h2 : ∃ i, l i ≠ ⊥) :
    0 < ∑ j, weight (l j) := by
  obtain ⟨i, hi⟩ := h2
  exact Finset.sum_pos' (fun j _ => weight_nonneg _) ⟨i, Finset.mem_univ i, weight_pos (h1 i) hi⟩

/-- Division of reals inside the extended reals. -/
theorem div_real (a b : ℝ) (h : b ≠ 0) : Ideal.div (a : EReal) (b : EReal) = ((a / b : ℝ) : EReal) := by
  rw [Ideal.div_coe h, ← EReal.coe_mul, mul_one_div]

/-- The sum of the shifted exponentials. -/
theorem sum_exp_sub {ι : Type*} [Fintype ι] {l : ι → EReal} (h1 : ∀ i, l i ≠ ⊤) (M : ℝ) :
    ∑ j, Ideal.exp (l j - (M : EReal)) = (((∑ j, weight (l j)) * Real.exp (-M) : ℝ) : EReal) := by
  rw [Finset.sum_mul, coe_sum]
  exact Finset.sum_congr rfl fun j _ => exp_sub_coe (h1 j) M

/-- The softmax as the quotient by the sum of the exponentials. -/
theorem softmax_div {ι : Type*} [Fintype ι] (l : ι → EReal) (h1 : ∀ i, l i ≠ ⊤) (h2 : ∃ i, l i ≠ ⊥) (i : ι) :
    Ideal.div (Ideal.exp (l i - max ⊥ (Finset.fold max ⊥ l Finset.univ)))
        (∑ j, Ideal.exp (l j - max ⊥ (Finset.fold max ⊥ l Finset.univ))) = (share l i : EReal) := by
  obtain ⟨M, hM⟩ := fold_max_real l h1 h2
  rw [max_eq_right bot_le, hM, sum_exp_sub h1, exp_sub_coe (h1 i), div_real _ _ (mul_pos (sum_weight_pos h1 h2) (Real.exp_pos _)).ne',
    mul_div_mul_right _ _ (Real.exp_pos _).ne', share]

/-- The softmax as the product with the reciprocal of the sum of the exponentials. -/
theorem softmax_mul {ι : Type*} [Fintype ι] (l : ι → EReal) (h1 : ∀ i, l i ≠ ⊤) (h2 : ∃ i, l i ≠ ⊥) (i : ι) :
    Ideal.exp (l i - Finset.fold max ⊥ l Finset.univ) * Ideal.div 1 (∑ j, Ideal.exp (l j - Finset.fold max ⊥ l Finset.univ))
      = (share l i : EReal) := by
  obtain ⟨M, hM⟩ := fold_max_real l h1 h2
  rw [hM, sum_exp_sub h1, exp_sub_coe (h1 i), ← EReal.coe_one, div_real _ _ (mul_pos (sum_weight_pos h1 h2) (Real.exp_pos _)).ne',
    ← EReal.coe_mul, mul_one_div, mul_div_mul_right _ _ (Real.exp_pos _).ne', share]

/-- A softmax over padded lanes, at a lane that is not padding. -/
theorem share_embed {ι κ : Type*} [Fintype ι] [Fintype κ] (e : ι → κ) (he : Function.Injective e) {l' : κ → EReal} {l : ι → EReal}
    (h : ∀ i, l' (e i) = l i) (h0 : ∀ k, k ∉ Set.range e → l' k = ⊥) (i : ι) : share l' (e i) = share l i := by
  unfold share
  rw [sum_embed e he (fun k => weight (l' k)) (fun k hk => by rw [h0 k hk, weight_bot]), h]
  simp only [h]

/-- A softmax over padded lanes, at a lane of padding. -/
theorem share_pad {κ : Type*} [Fintype κ] {l' : κ → EReal} {k : κ} (h : l' k = ⊥) : share l' k = 0 := by
  unfold share; rw [h, weight_bot, zero_div]

/-- The sum over padded lanes of the softmax times a coefficient is the sum over the lanes that are not padding. -/
theorem sum_share_embed {ι κ : Type*} [Fintype ι] [Fintype κ] (e : ι → κ) (he : Function.Injective e) {l' : κ → EReal} {l : ι → EReal}
    (h : ∀ i, l' (e i) = l i) (h0 : ∀ k, k ∉ Set.range e → l' k = ⊥) (g : κ → EReal) :
    ∑ k, (share l' k : EReal) * g k = ∑ i, (share l i : EReal) * g (e i) := by
  rw [sum_embed e he _ fun k hk => by rw [share_pad (h0 k hk)]; simp]
  simp only [share_embed e he h h0]

end Cert.Router

end
-- ==== Proof.LayerNorm.lean ====
/- One row's normalised projection, in the two spellings of the programs: normalise the row, scale it, shift it and project it;
   or project the row first and correct the projection by the row's mean, its deviation and the projected shift. -/
module

public import proofs.«01_k».proof.Proof.Softmax

@[expose] public section

noncomputable section

namespace Cert.Router

open Idealize.ShloMosaic

/-- The single-precision pattern of minus infinity. -/
theorem bits_neg_inf : Ideal.ofBits .f32 0xFF800000#32 = ⊥ := by
  simp [Ideal.ofBits, Ideal.ieee]

/-- The pattern of plus infinity. -/
theorem bits_inf : Ideal.ofBits .f32 0x7F800000#32 = ⊤ := by
  simp [Ideal.ofBits, Ideal.ieee]

/-- A pattern whose exponent field is not all ones is a real number. -/
theorem bits_real (b : BitVec 32) (h : (b.extractLsb' 23 8).toNat ≠ 255) : ∃ r : ℝ, Ideal.ofBits .f32 b = (r : EReal) := by
  unfold Ideal.ofBits Ideal.ieee
  dsimp only
  rw [if_neg (show ¬ (b.extractLsb' 23 8).toNat = 2 ^ 8 - 1 from h)]
  split_ifs
  all_goals exact ⟨_, rfl⟩

/-- The real number of a pattern with a clear sign and an exponent field that is neither zero nor all ones. -/
theorem bits_normal (b : BitVec 32) (h : (b.extractLsb' 23 8).toNat ≠ 255) (h0 : (b.extractLsb' 23 8).toNat ≠ 0)
    (hs : b.extractLsb' 31 1 = 0#1) :
    Ideal.ofBits .f32 b = (((2 ^ 23 + (b.extractLsb' 0 23).toNat : ℕ) * (2 : ℝ) ^ (((b.extractLsb' 23 8).toNat : ℤ) - 150) : ℝ) : EReal) := by
  unfold Ideal.ofBits Ideal.ieee
  dsimp only
  rw [if_neg (show ¬ (b.extractLsb' 23 8).toNat = 2 ^ 8 - 1 from h), if_neg h0, hs]
  congr 1
  have : (((b.extractLsb' 23 8).toNat : ℤ) - (2 ^ (8 - 1) - 1) - (23 : ℕ)) = ((b.extractLsb' 23 8).toNat : ℤ) - 150 := by
    norm_num [sub_sub]
  rw [this]
  simp

/-- A pattern of positive sign with an exponent that is neither zero nor full denotes a positive real number. -/
theorem bits_pos (b : BitVec 32) (h : (b.extractLsb' 23 8).toNat ≠ 255) (h0 : (b.extractLsb' 23 8).toNat ≠ 0)
    (hs : b.extractLsb' 31 1 = 0#1) : ∃ r : ℝ, 0 < r ∧ Ideal.ofBits .f32 b = (r : EReal) :=
  ⟨_, by positivity, bits_normal b h h0 hs⟩

/-- The pattern of 2048. -/
theorem bits_2048 : Ideal.ofBits .f32 0x45000000#32 = ((2048 : ℝ) : EReal) := by
  rw [bits_normal _ (by decide) (by decide) (by decide)]; congr 1; norm_num [Nat.shiftRight_eq_div_pow]

/-- The pattern of 1/2048. -/
theorem bits_inv2048 : Ideal.ofBits .f32 0x3A000000#32 = ((1 / 2048 : ℝ) : EReal) := by
  rw [bits_normal _ (by decide) (by decide) (by decide)]; congr 1; norm_num [Nat.shiftRight_eq_div_pow]

/-- The pattern of 16384. -/
theorem bits_16384 : Ideal.ofBits .f32 0x46800000#32 = ((16384 : ℝ) : EReal) := by
  rw [bits_normal _ (by decide) (by decide) (by decide)]; congr 1; norm_num [Nat.shiftRight_eq_div_pow]

/-- The pattern of 1/16384. -/
theorem bits_inv16384 : Ideal.ofBits .f32 0x38800000#32 = ((1 / 16384 : ℝ) : EReal) := by
  rw [bits_normal _ (by decide) (by decide) (by decide)]; congr 1; norm_num [Nat.shiftRight_eq_div_pow]

/-- The constant added to the variance is a positive real. -/
theorem bits_eps : ∃ e : ℝ, 0 < e ∧ Ideal.ofBits .f32 0x3727C5AC#32 = (e : EReal) :=
  bits_pos _ (by decide) (by decide) (by decide)

/-- The lower bound of the temperature is a positive real. -/
theorem bits_lo : ∃ e : ℝ, 0 < e ∧ Ideal.ofBits .f32 0x3DCCCCCD#32 = (e : EReal) :=
  bits_pos _ (by decide) (by decide) (by decide)

/-- The upper bound of the temperature is a positive real. -/
theorem bits_hi : ∃ e : ℝ, 0 < e ∧ Ideal.ofBits .f32 0x40A00000#32 = (e : EReal) :=
  bits_pos _ (by decide) (by decide) (by decide)

/-- The temperature is a positive real whatever the logarithm it is the exponential of. -/
theorem temp_real (t : EReal) :
    ∃ τ : ℝ, 0 < τ ∧ min (Ideal.ofBits .f32 0x40A00000#32) (max (Ideal.ofBits .f32 0x3DCCCCCD#32) t) = (τ : EReal) := by
  obtain ⟨lo, hlo, elo⟩ := bits_lo
  obtain ⟨hi, hhi, ehi⟩ := bits_hi
  rw [elo, ehi]
  induction t using EReal.rec with
  | bot => exact ⟨min hi lo, lt_min hhi hlo, by rw [max_eq_left bot_le]; exact (EReal.coe_strictMono.monotone.map_min).symm⟩
  | coe r => exact ⟨min hi (max lo r), lt_min hhi (lt_max_of_lt_left hlo), by
    rw [EReal.coe_strictMono.monotone.map_min, EReal.coe_strictMono.monotone.map_max]⟩
  | top => exact ⟨hi, hhi, by rw [max_eq_right le_top, min_eq_left le_top]⟩

/-- A hyperbolic tangent is a real number. -/
theorem tanh_real (x : EReal) : ∃ p : ℝ, Ideal.tanh x = (p : EReal) := by
  induction x using EReal.rec with
  | bot => exact ⟨-1, by simp⟩
  | coe r => exact ⟨Real.tanh r, by simp⟩
  | top => exact ⟨1, by simp⟩

/-- The logistic function, as `1 / (1 + exp (-a))`, is a real number. -/
theorem gate_real (a : EReal) : ∃ g : ℝ, Ideal.div 1 (1 + Ideal.exp (-a)) = (g : EReal) := by
  induction a using EReal.rec with
  | bot =>
    refine ⟨0, ?_⟩
    have h : (1 : EReal) + ⊤ = ⊤ := EReal.coe_add_top 1
    simp [Ideal.div, h]
  | coe r =>
    refine ⟨1 / (1 + Real.exp (-r)), ?_⟩
    rw [← EReal.coe_neg, Ideal.exp_coe, ← EReal.coe_one, ← EReal.coe_add, div_real _ _ (by positivity)]
  | top => exact ⟨1, by simp [Ideal.div]⟩

/-- Projection `w` of a row `x` after normalisation, scaling by `g` and shifting by `b`: the row's mean, its variance and the
    projection as the sum over the normalised row. -/
def projected (x g b w : Fin 2048 → EReal) : EReal :=
  ∑ d, ((x d - Ideal.div (∑ k, x k) (Ideal.ofBits .f32 0x45000000#32)) *
      Ideal.rsqrt (Ideal.div (∑ k, (x k - Ideal.div (∑ j, x j) (Ideal.ofBits .f32 0x45000000#32)) *
        (x k - Ideal.div (∑ j, x j) (Ideal.ofBits .f32 0x45000000#32))) (Ideal.ofBits .f32 0x45000000#32)
          + Ideal.ofBits .f32 0x3727C5AC#32) * g d + b d) * w d

/-- The mean of the squares less the square of the mean is the mean of the squared deviations. -/
theorem variance_eq (ξ : Fin 2048 → ℝ) :
    (∑ k, (ξ k - (∑ j, ξ j) / 2048) * (ξ k - (∑ j, ξ j) / 2048)) / 2048
      = (∑ k, ξ k * ξ k) * (1 / 2048) - (∑ k, ξ k) * (1 / 2048) * ((∑ k, ξ k) * (1 / 2048)) := by
  have h : ∀ k, (ξ k - (∑ j, ξ j) / 2048) * (ξ k - (∑ j, ξ j) / 2048)
      = ξ k * ξ k - 2 * ((∑ j, ξ j) / 2048) * ξ k + ((∑ j, ξ j) / 2048) * ((∑ j, ξ j) / 2048) := fun k => by ring
  simp only [h]
  rw [Finset.sum_add_distrib, Finset.sum_sub_distrib, ← Finset.mul_sum]
  simp only [Finset.sum_const, Finset.card_univ, Fintype.card_fin, nsmul_eq_mul]
  push_cast
  ring

/-- A real plus an extended real, times a real, distributes. -/
theorem add_mul_real (a w : ℝ) (b : EReal) : ((a : EReal) + b) * (w : EReal) = ((a * w : ℝ) : EReal) + b * (w : EReal) := by
  induction b using EReal.rec with
  | coe r => norm_cast; ring
  | bot =>
    rw [EReal.add_bot]
    rcases lt_trichotomy w 0 with h | h | h
    · rw [EReal.bot_mul_coe_of_neg h, EReal.coe_add_top]
    · subst h; simp
    · rw [EReal.bot_mul_coe_of_pos h, EReal.add_bot]
  | top =>
    rw [EReal.coe_add_top]
    rcases lt_trichotomy w 0 with h | h | h
    · rw [EReal.top_mul_coe_of_neg h, EReal.add_bot]
    · subst h; simp
    · rw [EReal.top_mul_coe_of_pos h, EReal.coe_add_top]

/-- Projecting first and correcting afterwards is projecting the normalised row, for a row, a scale and a projection of real
    numbers and any shift. -/
theorem projected_eq (x g b w : Fin 2048 → EReal) (ξ γ ω : Fin 2048 → ℝ) (hx : ∀ d, x d = (ξ d : EReal))
    (hg : ∀ d, g d = (γ d : EReal)) (hw : ∀ d, w d = (ω d : EReal)) :
    ((∑ d, x d * (w d * g d)) - (∑ d, x d) * Ideal.ofBits .f32 0x3A000000#32 * (∑ d, w d * g d)) *
        Ideal.rsqrt ((∑ d, x d * x d) * Ideal.ofBits .f32 0x3A000000#32
          - (∑ d, x d) * Ideal.ofBits .f32 0x3A000000#32 * ((∑ d, x d) * Ideal.ofBits .f32 0x3A000000#32)
          + Ideal.ofBits .f32 0x3727C5AC#32) + ∑ d, w d * b d
      = projected x g b w := by
  obtain ⟨e, he, hE⟩ := bits_eps
  have hvar : 0 ≤ (∑ k, (ξ k - (∑ j, ξ j) / 2048) * (ξ k - (∑ j, ξ j) / 2048)) / 2048 :=
    div_nonneg (Finset.sum_nonneg fun k _ => mul_self_nonneg _) (by norm_num)
  unfold projected
  simp only [hx, hg, hw, hE, bits_inv2048, bits_2048]
  simp only [← EReal.coe_mul, ← coe_sum, div_real _ _ (by norm_num : (2048 : ℝ) ≠ 0), ← EReal.coe_sub, ← EReal.coe_add]
  rw [← variance_eq]
  have hr : ¬ ((∑ k, (ξ k - (∑ j, ξ j) / 2048) * (ξ k - (∑ j, ξ j) / 2048)) / 2048 + e < 0) := by linarith
  have hr0 : ¬ ((∑ k, (ξ k - (∑ j, ξ j) / 2048) * (ξ k - (∑ j, ξ j) / 2048)) / 2048 + e = 0) := by
    intro h; linarith
  rw [Ideal.rsqrt_coe, if_neg hr, if_neg hr0]
  set s : ℝ := (Real.sqrt ((∑ k, (ξ k - (∑ j, ξ j) / 2048) * (ξ k - (∑ j, ξ j) / 2048)) / 2048 + e))⁻¹
  simp only [← EReal.coe_mul]
  simp only [add_mul_real]
  rw [Finset.sum_add_distrib, ← coe_sum]
  congr 1
  · congr 1
    rw [Finset.mul_sum, ← Finset.sum_sub_distrib, Finset.sum_mul]
    refine Finset.sum_congr rfl fun d _ => ?_
    ring
  · exact Finset.sum_congr rfl fun d _ => mul_comm _ _

end Cert.Router

end
-- ==== Proof.Spec.lean ====
module
public import proofs.«01_k».proof.Proof.Softmax
public import proofs.«01_k».proof.Proof.LayerNorm
public import proofs.«01_k».proof.ReferenceIdeal
@[expose] public section
/-! # What the two programs compute

The reference's mathematics over the extended reals: the normalised rows are projected onto two, three and six axes, each
projection gives the logits of 4, 8 and 64 corners, and the three softmaxes mix into the logits of three groups. -/
set_option maxRecDepth 16384
noncomputable section
namespace Cert.Router
open Idealize.ShloMosaic

/-- The arguments of the two programs, as functions of their indices. -/
structure Data where
  x : Fin 4 → Fin 4096 → Fin 2048 → EReal
  gain : Fin 2048 → EReal
  shift : Fin 2048 → EReal
  two : Fin 2 → Fin 2048 → EReal
  three : Fin 3 → Fin 2048 → EReal
  six : Fin 6 → Fin 2048 → EReal
  logTemp : EReal
  scale : Fin 3 → EReal
  group : Fin 8 → Fin 3 → EReal
  spectral : EReal

/-- Row `k` of the eleven projections stacked: the two, the three and the six. -/
def Data.proj (D : Data) (k : Fin 16) (d : Fin 2048) : EReal :=
  if h : k.1 < 11 then
    if h' : k.1 < 2 then D.two ⟨k.1, h'⟩ d else if h'' : k.1 - 2 < 3 then D.three ⟨k.1 - 2, h''⟩ d else D.six ⟨k.1 - 2 - 3, by omega⟩ d
  else 0

/-- What the arguments must be: the input, the gain and the three projections real numbers, the mixing logits and every row of the
    group logits never plus infinity and not all minus infinity. -/
structure Data.Tame (D : Data) : Prop where
  x : ∀ b s d, ∃ r : ℝ, D.x b s d = r
  gain : ∀ d, ∃ r : ℝ, D.gain d = r
  two : ∀ k d, ∃ r : ℝ, D.two k d = r
  three : ∀ k d, ∃ r : ℝ, D.three k d = r
  six : ∀ k d, ∃ r : ℝ, D.six k d = r
  scale_top : ∀ g, D.scale g ≠ ⊤
  scale_bot : ∃ g, D.scale g ≠ ⊥
  group_top : ∀ v g, D.group v g ≠ ⊤
  group_bot : ∀ v, ∃ g, D.group v g ≠ ⊥

section tables
open Cert.ReferenceIdeal
/-- The corners of the square. -/
def square (j : Fin 4) (k : Fin 2) : EReal := Ideal.ofBits .f32 (lit1 (S4x2.rowMajor (ix2 j k)))
/-- The corners of the cube. -/
def cube (j : Fin 8) (k : Fin 3) : EReal := Ideal.ofBits .f32 (lit2 (S8x3.rowMajor (ix2 j k)))
/-- The corners of the six-dimensional cube. -/
def hexa (j : Fin 64) (k : Fin 6) : EReal := Ideal.ofBits .f32 (lit0 (S64x6.rowMajor (ix2 j k)))
/-- The groups of the four corners. -/
def fourGroup (j : Fin 4) (g : Fin 3) : EReal := Ideal.ofBits .f32 (lit3 (S4x3.rowMajor (ix2 j g)))
/-- The three anchors. -/
def anchor (g : Fin 3) (k : Fin 6) : EReal := Ideal.ofBits .f32 (lit4 (S3x6.rowMajor (ix2 g k)))
/-- The spectral groups of the 64 corners. -/
def spectralGroup (j : Fin 64) (g : Fin 3) : EReal := Ideal.ofBits .f32 (lit5 (S64x3.rowMajor (ix2 j g)))
end tables

namespace Data
variable (D : Data)

/-- The temperature: the exponential of its logarithm, kept between two bounds. -/
def temp : EReal := min (Ideal.ofBits .f32 0x40A00000#32) (max (Ideal.ofBits .f32 0x3DCCCCCD#32) (Ideal.exp D.logTemp))

/-- A corner's logit: the bounded projections against the corner's coordinates, over the temperature. -/
def corner {n q : ℕ} (w : Fin n → Fin 2048 → EReal) (T : Fin q → Fin n → EReal) (b : Fin 4) (s : Fin 4096) (j : Fin q) : EReal :=
  Ideal.div (∑ k, Ideal.tanh (projected (D.x b s) D.gain D.shift (w k)) * T j k) D.temp

/-- The logits of the 4 corners. -/
def logit2 : Fin 4 → Fin 4096 → Fin 4 → EReal := D.corner D.two square
/-- The logits of the 8 corners. -/
def logit3 : Fin 4 → Fin 4096 → Fin 8 → EReal := D.corner D.three cube
/-- The logits of the 64 corners. -/
def logit6 : Fin 4 → Fin 4096 → Fin 64 → EReal := D.corner D.six hexa

/-- The gate between the two groupings of the 64 corners. -/
def gate : EReal := Ideal.div 1 (1 + Ideal.exp (-D.spectral))

/-- The logits of the three groups. -/
def groupLogit (b : Fin 4) (s : Fin 4096) (g : Fin 3) : EReal :=
  (share D.scale 0 : EReal) * ∑ j, (share (D.logit2 b s) j : EReal) * fourGroup j g
    + (share D.scale 1 : EReal) * ∑ v, (share (D.logit3 b s) v : EReal) * (share (D.group v) g : EReal)
    + (share D.scale 2 : EReal) * ((1 - D.gate) * ∑ k, (∑ j, (share (D.logit6 b s) j : EReal) * hexa j k) * anchor g k
      + D.gate * ∑ j, (share (D.logit6 b s) j : EReal) * spectralGroup j g)

/-- The weights of the three groups. -/
def groupWeight (b : Fin 4) (s : Fin 4096) (g : Fin 3) : ℝ := share (D.groupLogit b s) g
/-- The weights of the 64 corners. -/
def hexaWeight (b : Fin 4) (s : Fin 4096) (j : Fin 64) : ℝ := share (D.logit6 b s) j

/-- The mean weight of each group. -/
def groupMean (g : Fin 3) : EReal := Ideal.div (∑ b, ∑ s, (D.groupWeight b s g : EReal)) (Ideal.ofBits .f32 0x46800000#32)
/-- The mean weight of each of the 64 corners. -/
def hexaMean (j : Fin 64) : EReal := Ideal.div (∑ b, ∑ s, (D.hexaWeight b s j : EReal)) (Ideal.ofBits .f32 0x46800000#32)

/-- A mean weight times its logarithm. -/
def ent (u : EReal) : EReal := u * Ideal.log (u + Ideal.ofBits .f32 0x322BCC77#32)

/-- The balancing loss. -/
def loss : EReal := ∑ g, ent (D.groupMean g) + Ideal.ofBits .f32 0x3DCCCCCD#32 * ∑ j, ent (D.hexaMean j)

end Data

/-- The first result as an array. -/
def mixResult (D : Data) : (⟨3, ![4, 4096, 3]⟩ : Shape).Idx → EReal := fun j => (D.groupWeight (j 0) (j 1) (j 2) : EReal)
/-- The second result as an array. -/
def hexaResult (D : Data) : (⟨3, ![4, 4096, 64]⟩ : Shape).Idx → EReal := fun j => (D.hexaWeight (j 0) (j 1) (j 2) : EReal)
/-- The third result as an array. -/
def lossResult (D : Data) : (⟨0, ![]⟩ : Shape).Idx → EReal := fun _ => D.loss

end Cert.Router
end
-- ==== Proof.Entry.lean ====
module
public import proofs.«01_k».proof.Proof.Spec
public import proofs.«01_k».proof.Proof.Gen.KernelIdeal.Frame
public import Idealize.ShloMosaic.Lib.Pipeline.ValueKit
public import Idealize.ShloMosaic.Lib.StableHlo.ReadAt
public import Idealize.ShloMosaic.Lib.Tactic.CleanTypes
@[expose] public section
/-! # What enters the launch

The arrays that the host operations hand to the launch, index by index, over the arguments. -/
set_option maxRecDepth 16384
noncomputable section
namespace Cert.Router
open Idealize.ShloMosaic Idealize.SL.Sem

open Cert.KernelIdeal Cert.KernelIdeal.Gen
variable (m : (loc : Loc nD τ sig) → Buf (Elt Ideal) loc) (c : Dev nD)

/-- The arguments of the kernel's program. -/
def kernelData : Data where
  x := fun b s d => (m (c.tc.loc main_arg0) : FVec Ideal S4x4096x2048 .f32) (ix3 b s d)
  gain := fun d => (m (c.tc.loc main_arg1) : FVec Ideal S2048 .f32) (ix1 d)
  shift := fun d => (m (c.tc.loc main_arg2) : FVec Ideal S2048 .f32) (ix1 d)
  two := fun k d => (m (c.tc.loc main_arg3) : FVec Ideal S2x2048 .f32) (ix2 k d)
  three := fun k d => (m (c.tc.loc main_arg4) : FVec Ideal S3x2048 .f32) (ix2 k d)
  six := fun k d => (m (c.tc.loc main_arg5) : FVec Ideal S6x2048 .f32) (ix2 k d)
  logTemp := (m (c.tc.loc main_arg6) : FVec Ideal S_ .f32) ix0
  scale := fun g => (m (c.tc.loc main_arg7) : FVec Ideal S3 .f32) (ix1 g)
  group := fun v g => (m (c.tc.loc main_arg8) : FVec Ideal S8x3 .f32) (ix2 v g)
  spectral := (m (c.tc.loc main_arg9) : FVec Ideal S_ .f32) ix0

/-- The rows of the input. -/
theorem entry_x (R : Fin 16384) (d : Fin 2048) :
    (V m c main_v0 : FVec Ideal S16384x2048 .f32) (ix2 R d) = (kernelData m c).x ⟨R.1 / 4096, by omega⟩ ⟨R.1 % 4096, by omega⟩ d := by
  entry_read
  after_reads_at
  rfl

/-- The projection weights times the gain, padded with zero columns. -/
theorem entry_w (d : Fin 2048) (k : Fin 16) :
    (V m c main_v23 : FVec Ideal S2048x16 .f32) (ix2 d k) = if k.1 < 11 then (kernelData m c).proj k d * (kernelData m c).gain d else 0 := by
  entry_read
  after_reads_at
  after_reads_at
  unfold Data.proj
  split_ifs <;> rfl

/-- The first correction row: the column sums of the weights. -/
theorem entry_s (k : Fin 16) :
    (V m c main_v30 : FVec Ideal S2x16 .f32) (ix2 0 k) = if k.1 < 11 then ∑ d, (kernelData m c).proj k d * (kernelData m c).gain d else 0 := by
  entry_read
  after_reads_at
  after_reads_at
  after_reads_at
  by_cases h : k.1 < 11
  · simp only [dif_pos h, if_pos h]
    exact Finset.sum_congr rfl fun d _ => by unfold Data.proj; rw [dif_pos h]; split_ifs <;> rfl
  · simp only [dif_neg h, if_neg h, Finset.sum_const_zero]

/-- The second correction row: the projections of the shift. -/
theorem entry_b (k : Fin 16) :
    (V m c main_v30 : FVec Ideal S2x16 .f32) (ix2 1 k) = if k.1 < 11 then ∑ d, (kernelData m c).proj k d * (kernelData m c).shift d else 0 := by
  entry_read
  after_reads_at
  after_reads_at
  after_reads_at
  by_cases h : k.1 < 11
  · simp only [dif_pos h, if_pos h]
    exact Finset.sum_congr rfl fun d _ => by unfold Data.proj; rw [dif_pos h]; split_ifs <;> rfl
  · simp only [dif_neg h, if_neg h, Finset.sum_const_zero]

/-- The table of corners over the temperature. -/
theorem entry_t (k : Fin 16) (l : Fin 384) :
    (V m c main_v33 : FVec Ideal S16x384 .f32) (ix2 k l) = Ideal.ofBits .f32 (lit0 (S16x384.rowMajor (ix2 k l)))
      * Ideal.div 1 (min (Ideal.ofBits .f32 0x40A00000#32) (max (Ideal.ofBits .f32 0x3DCCCCCD#32) (Ideal.exp (kernelData m c).logTemp))) := by
  entry_read
  after_reads_at
  rfl

/-- The mask, before it is scaled. -/
theorem entry_m (l : Fin 384) :
    (V m c main_cst_0 : FVec Ideal S1x384 .f32) (ix2 0 l) = Ideal.ofBits .f32 (lit1 (S1x384.rowMajor (ix2 0 l))) := by
  entry_read
  after_reads_at

/-- The softmax of the mixing logits, as the host operations compute it. -/
def hostMix (D : Data) (i : Fin 3) : EReal :=
  Ideal.div (Ideal.exp (D.scale i - max ⊥ (Finset.fold max ⊥ D.scale Finset.univ)))
    (∑ j, Ideal.exp (D.scale j - max ⊥ (Finset.fold max ⊥ D.scale Finset.univ)))
/-- The softmax of a corner's group logits, as the host operations compute it. -/
def hostGroup (D : Data) (v : Fin 8) (g : Fin 3) : EReal :=
  Ideal.div (Ideal.exp (D.group v g - max ⊥ (Finset.fold max ⊥ (D.group v) Finset.univ)))
    (∑ j, Ideal.exp (D.group v j - max ⊥ (Finset.fold max ⊥ (D.group v) Finset.univ)))

/-- The table of groups: the three mixing weights against the three groupings. -/
theorem entry_a (l : Fin 384) (g : Fin 3) :
    (V m c main_v76 : FVec Ideal S384x3 .f32) (ix2 l g) =
      hostMix (kernelData m c) 0 * Ideal.ofBits .f32 (lit4 (S384x3.rowMajor (ix2 l g)))
      + hostMix (kernelData m c) 1 * ∑ v, Ideal.ofBits .f32 (lit5 (S384x8.rowMajor (ix2 l v))) * hostGroup (kernelData m c) v g
      + hostMix (kernelData m c) 2 * ((1 - (kernelData m c).gate) * ∑ k, Ideal.ofBits .f32 (lit2 (S384x6.rowMajor (ix2 l k)))
            * Ideal.ofBits .f32 (lit3 (S3x6.rowMajor (ix2 g k)))
          + (kernelData m c).gate * Ideal.ofBits .f32 (lit6 (S384x3.rowMajor (ix2 l g)))) := by
  entry_read
  after_reads_at
  simp only [bits_neg_inf]
  unfold hostMix hostGroup Data.gate
  rfl

end Cert.Router
end
-- ==== Proof.PreFacts.lean ====
module
public import proofs.«01_k».proof.Proof.Entry
public import proofs.«01_k».proof.Defs
public import Idealize.ShloMosaic.Lib.ReduceAll
@[expose] public section
/-! # What the precondition says

The predicate `tame` reads as the hypothesis `Data.Tame` under which the two programs are compared. -/
set_option maxRecDepth 16384
noncomputable section
namespace Cert.Router
open Idealize.ShloMosaic
open Cert.Pre_tame

/-- The shape conditions of the predicate. -/
theorem tame_facts : Cert.Pre_tame.Facts where
  bcast_S_S4x4096x2048 := by decide
  reducesTo_S4x4096x2048_S_d0_1_2 := by decide
  h_S_ := by decide
  bcast_S_S2048 := by decide
  reducesTo_S2048_S_d0 := by decide
  bcast_S_S2x2048 := by decide
  reducesTo_S2x2048_S_d0_1 := by decide
  bcast_S_S3x2048 := by decide
  reducesTo_S3x2048_S_d0_1 := by decide
  bcast_S_S6x2048 := by decide
  reducesTo_S6x2048_S_d0_1 := by decide
  reducesTo_S3_S_d0 := by decide
  reducesTo_S8x3_S8_d1 := by decide
  bcast_S_S8 := by decide
  reducesTo_S8_S_d0 := by decide

/-- `|x| < inf` says that `x` is neither infinity. -/
theorem ne_of_abs_lt {x : EReal}
    (h : Ideal.cmp .olt (max x (-x)) (Ideal.ofBits .f32 0x7F800000#32) = 1#1) : x ≠ ⊤ ∧ x ≠ ⊥ := by
  rw [bits_inf] at h
  refine ⟨?_, ?_⟩ <;> rintro rfl <;> simp [Ideal.cmp] at h

/-- … so that it is a real number. -/
theorem real_of_abs_lt {x : EReal}
    (h : Ideal.cmp .olt (max x (-x)) (Ideal.ofBits .f32 0x7F800000#32) = 1#1) : ∃ r : ℝ, x = r :=
  ⟨x.toReal, (EReal.coe_toReal (ne_of_abs_lt h).1 (ne_of_abs_lt h).2).symm⟩

instance : Subsingleton S_.Idx := ⟨fun a b => funext fun k => k.elim0⟩

section
variable [Facts]
open Facts

/-- The greatest of the three mixing logits. -/
theorem max_scale (a : FVec Ideal S3 .f32) :
    (Host.reduce (FloatOps.maximumf (F := Ideal) (φ := .f32)) a (constant S_ .f32 0xFF800000#32) reducesTo_S3_S_d0 h_S_ : FVec Ideal S_ .f32) ix0
      = Finset.fold max ⊥ (fun g => a (ix1 g)) Finset.univ := by
  pointwise
  simp only [bits_neg_inf]

/-- The greatest of the three logits of a corner. -/
theorem max_group (a : FVec Ideal S8x3 .f32) (v : Fin 8) :
    (Host.reduce (FloatOps.maximumf (F := Ideal) (φ := .f32)) a (constant S_ .f32 0xFF800000#32) reducesTo_S8x3_S8_d1 h_S_ : FVec Ideal S8 .f32) (ix1 v)
      = Finset.fold max ⊥ (fun g => a (ix2 v g)) Finset.univ := by
  pointwise
  simp only [bits_neg_inf]

/-- The predicate, conjunct by conjunct. -/
theorem tame_parts (a0 : FVec Ideal S4x4096x2048 .f32) (a1 a2 : FVec Ideal S2048 .f32) (a3 : FVec Ideal S2x2048 .f32)
    (a4 : FVec Ideal S3x2048 .f32) (a5 : FVec Ideal S6x2048 .f32) (a6 : FVec Ideal S_ .f32) (a7 : FVec Ideal S3 .f32)
    (a8 : FVec Ideal S8x3 .f32) (a9 : FVec Ideal S_ .f32)
    (h : Cert.Pre_tame.fn (F := Ideal) a0 a1 a2 a3 a4 a5 a6 a7 a8 a9 = fun _ => 1#1) :
    (∀ i, ∃ r : ℝ, (a0 i : EReal) = r) ∧ (∀ i, ∃ r : ℝ, (a1 i : EReal) = r) ∧ (∀ i, ∃ r : ℝ, (a3 i : EReal) = r)
      ∧ (∀ i, ∃ r : ℝ, (a4 i : EReal) = r) ∧ (∀ i, ∃ r : ℝ, (a5 i : EReal) = r)
      ∧ (Finset.fold max ⊥ (fun g => (a7 (ix1 g) : EReal)) Finset.univ ≠ ⊤ ∧ Finset.fold max ⊥ (fun g => (a7 (ix1 g) : EReal)) Finset.univ ≠ ⊥)
      ∧ ∀ v, Finset.fold max ⊥ (fun g => (a8 (ix2 v g) : EReal)) Finset.univ ≠ ⊤ ∧ Finset.fold max ⊥ (fun g => (a8 (ix2 v g) : EReal)) Finset.univ ≠ ⊥ := by
  have e := congrFun h ix0
  unfold Cert.Pre_tame.fn fn_part1 fn_part2 at e
  obtain ⟨e, e8⟩ := IntOp.andi_eq_one.1 e
  obtain ⟨e, e7⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e1⟩ := IntOp.andi_eq_one.1 e
  refine ⟨fun i => real_of_abs_lt (Host.reduce_andi_all _ _ _ _ ix0 e0 i), fun i => real_of_abs_lt (Host.reduce_andi_all _ _ _ _ ix0 e1 i),
    fun i => real_of_abs_lt (Host.reduce_andi_all _ _ _ _ ix0 e3 i), fun i => real_of_abs_lt (Host.reduce_andi_all _ _ _ _ ix0 e4 i),
    fun i => real_of_abs_lt (Host.reduce_andi_all _ _ _ _ ix0 e5 i), ?_, fun v => ?_⟩
  · rw [← max_scale a7]
    exact ne_of_abs_lt e7
  · rw [← max_group a8 v]
    exact ne_of_abs_lt (Host.reduce_andi_all _ _ _ _ ix0 e8 (ix1 v))

end

open Cert.KernelIdeal in
/-- The arguments of a memory that meets the precondition. -/
theorem kernel_tame [Cert.Pre_tame.Facts] (m : (loc : Loc nD τ sig) → Buf (Elt Ideal) loc) (h : Cert.Pre_KernelIdeal_tame m) (c : Dev nD) :
    (kernelData m c).Tame := by
  obtain ⟨h0, h1, h3, h4, h5, h7, h8⟩ := tame_parts _ _ _ _ _ _ _ _ _ _ (h c)
  exact ⟨fun b s d => h0 (ix3 b s d), fun d => h1 (ix1 d), fun k d => h3 (ix2 k d), fun k d => h4 (ix2 k d), fun k d => h5 (ix2 k d),
    fun g => ne_top_of_fold h7.1 g, exists_ne_bot_of_fold h7.2, fun v g => ne_top_of_fold (h8 v).1 g, fun v => exists_ne_bot_of_fold (h8 v).2⟩

end Cert.Router
end
-- ==== Proof.KernelRow.lean ====
/- The kernel body read row by row: what one tile's stored values hold at an index, as functions of the tile's row of the input
   and of the coefficient arrays. -/
module

public import proofs.«01_k».proof.Proof.Gen.KernelIdeal.Frame
public import proofs.«01_k».proof.Proof.LayerNorm
public import Idealize.ShloMosaic.Lib.Pointwise

@[expose] public section

set_option maxRecDepth 16384

noncomputable section

namespace Cert.Router

open Idealize.ShloMosaic Idealize.SL.Sem

/-- A row's hidden value `k`: the hyperbolic tangent of its corrected projection. -/
def rowHid (x : Fin 2048 → EReal) (W : Fin 2048 → Fin 16 → EReal) (S B : Fin 16 → EReal) (k : Fin 16) : EReal :=
  Ideal.tanh
    ((∑ d, x d * W d k - (∑ d, x d) * Ideal.ofBits .f32 0x3A000000#32 * S k) *
      Ideal.rsqrt ((∑ d, x d * x d) * Ideal.ofBits .f32 0x3A000000#32
        - (∑ d, x d) * Ideal.ofBits .f32 0x3A000000#32 * ((∑ d, x d) * Ideal.ofBits .f32 0x3A000000#32)
        + Ideal.ofBits .f32 0x3727C5AC#32) + B k)

/-- A row's logit at lane `c` of the 384: the hidden values against the table `T`, plus the mask. -/
def rowLogit (x : Fin 2048 → EReal) (W : Fin 2048 → Fin 16 → EReal) (S B : Fin 16 → EReal) (T : Fin 16 → Fin 384 → EReal)
    (M : Fin 384 → EReal) (c : Fin 384) : EReal :=
  ∑ k, rowHid x W S B k * T k c + M c * ⊥

/-- The softmax over one segment of 128 lanes, multiplied by the reciprocal of the sum. -/
def segSoft (l : Fin 128 → EReal) (v : Fin 128) : EReal :=
  Ideal.exp (l v - Finset.fold max ⊥ l Finset.univ) * Ideal.div 1 (∑ j, Ideal.exp (l j - Finset.fold max ⊥ l Finset.univ))

/-- The same over the three groups. -/
def groupSoft (l : Fin 3 → EReal) (g : Fin 3) : EReal :=
  Ideal.exp (l g - Finset.fold max ⊥ l Finset.univ) * Ideal.div 1 (∑ j, Ideal.exp (l j - Finset.fold max ⊥ l Finset.univ))

/-- Lane `v` of segment `o`. -/
def lane (o : Fin 3) (v : Fin 128) : Fin 384 := ⟨128 * o.1 + v.1, by omega⟩

/-- A row's group logits: the three segments' softmaxes against the table `A`. -/
def rowGroup (L : Fin 384 → EReal) (A : Fin 384 → Fin 3 → EReal) (g : Fin 3) : EReal :=
  ∑ v, segSoft (fun v => L (lane 0 v)) v * A (lane 0 v) g + (∑ v, segSoft (fun v => L (lane 1 v)) v * A (lane 1 v) g
    + ∑ v, segSoft (fun v => L (lane 2 v)) v * A (lane 2 v) g)

/-- A sum over the 384 lanes is the sum over the three segments. -/
theorem sum_lanes (f : Fin 384 → EReal) :
    ∑ c, f c = ∑ v, f (lane 0 v) + (∑ v, f (lane 1 v) + ∑ v, f (lane 2 v)) := by
  rw [show ∑ c, f c = ∑ c : Fin (128 + 256), f c from rfl, Fin.sum_univ_add,
    show ∑ c : Fin 256, f (Fin.natAdd 128 c) = ∑ c : Fin (128 + 128), f (Fin.natAdd 128 c) from rfl, Fin.sum_univ_add]
  congr 1

/-- Lane `v` of the first segment, spelt out. -/
theorem lane_zero_mk (v : Fin 128) (h : v.1 < 384) : (⟨v.1, h⟩ : Fin 384) = lane 0 v := Fin.ext (by simp [lane])

/-- Lane `v` of the second segment, spelt out. -/
theorem lane_one_mk (v : Fin 128) (h : 128 + v.1 < 384) : (⟨128 + v.1, h⟩ : Fin 384) = lane 1 v := Fin.ext (by simp [lane])

/-- Lane `v` of the third segment, spelt out. -/
theorem lane_two_mk (v : Fin 128) (h : 256 + v.1 < 384) : (⟨256 + v.1, h⟩ : Fin 384) = lane 2 v := Fin.ext (by simp [lane])

/-- Where lane `v` of the first segment lies. -/
theorem lane_zero_val (v : Fin 128) : (lane 0 v).1 = v.1 := by simp [lane]

/-- Where lane `v` of the second segment lies. -/
theorem lane_one_val (v : Fin 128) : (lane 1 v).1 = 128 + v.1 := by simp [lane]

/-- Where lane `v` of the third segment lies. -/
theorem lane_two_val (v : Fin 128) : (lane 2 v).1 = 256 + v.1 := by simp [lane]

open Cert.KernelIdeal Cert.KernelIdeal.Gen

/-- The mask's constant is minus infinity. -/
theorem mask_const : (Named.named κ "mask" 0xF149F2CA#32 : Ideal .f32) = (⊥ : EReal) := by
  rfl

section tile
variable (x : FVec Ideal S2048x2048 .f32) (W : FVec Ideal S2048x16 .f32) (S B : FVec Ideal S1x16 .f32)
  (T : FVec Ideal S16x384 .f32) (M : FVec Ideal S1x384 .f32) (A : FVec Ideal S384x3 .f32)

/-- The logits of row `r` of a tile. -/
def tileLogit (r : Fin 2048) (c : Fin 384) : EReal :=
  rowLogit (fun d => x (ix2 r d)) (fun d k => W (ix2 d k)) (fun k => S (ix2 0 k)) (fun k => B (ix2 0 k)) (fun k c => T (ix2 k c))
    (fun c => M (ix2 0 c)) c

/-- The body's logits, lane by lane. -/
theorem logit_apply (r : Fin 2048) (c : Fin 384) :
    (k0_pay3 (F := Ideal) x W S B T (ix2 r c) + k0_pay4 (F := Ideal) M (ix2 r c) : EReal) = tileLogit x W S B T M r c := by
  unfold k0_pay3 k0_pay4 tileLogit rowLogit rowHid
  pointwise
  rw [mask_const]

/-- The body's softmax of a segment, lane by lane. -/
theorem seg_apply (r : Fin 2048) (v : Fin 128) :
    k0_pay6 (F := Ideal) (k0_pay3 x W S B T) (k0_pay4 M) (ix2 r v)
      = segSoft (fun v => tileLogit x W S B T M r (lane 2 v)) v := by
  unfold k0_pay6 k0_pay5 segSoft
  pointwise
  simp only [← logit_apply, bits_neg_inf, lane_two_mk]

/-- What the body writes to the block of corner weights. -/
theorem out7_apply (r : Fin 2048) (v : Fin 64) :
    k0_pay7 (F := Ideal) (k0_pay3 x W S B T) (k0_pay4 M) (ix2 r v)
      = segSoft (fun v => tileLogit x W S B T M r (lane 2 v)) ⟨v.1, by omega⟩ := by
  rw [← seg_apply]
  unfold k0_pay7
  pointwise

/-- The body's group logits. -/
theorem group_apply (r : Fin 2048) (g : Fin 3) :
    k0_pay8 (F := Ideal) (k0_pay3 x W S B T) (k0_pay4 M) A (ix2 r g)
      = rowGroup (tileLogit x W S B T M r) (fun c g => A (ix2 c g)) g := by
  unfold k0_pay8 k0_pay5 rowGroup
  pointwise
  rw [sum_lanes]
  refine congrArg₂ (· + ·) (Finset.sum_congr rfl fun v _ => congrArg (· * _) ?_) (congrArg₂ (· + ·) (Finset.sum_congr rfl fun v _ => congrArg (· * _) ?_)
    (Finset.sum_congr rfl fun v _ => congrArg (· * _) ?_))
  · rw [dif_pos (show (lane 0 v).1 < 128 by rw [lane_zero_val]; exact v.2)]
    unfold segSoft
    simp only [← logit_apply, bits_neg_inf, lane_zero_mk]
  · rw [dif_neg (show ¬ (lane 1 v).1 < 128 by rw [lane_one_val]; omega), dif_pos (show (lane 1 v).1 - 128 < 128 by rw [lane_one_val]; omega)]
    have e : ∀ h, (⟨128 + ((lane 1 v).1 - 128), h⟩ : Fin 384) = lane 1 v := fun h => Fin.ext (by simp only [lane_one_val]; omega)
    unfold segSoft
    simp only [← logit_apply, bits_neg_inf, lane_one_mk, e]
  · rw [dif_neg (show ¬ (lane 2 v).1 < 128 by rw [lane_two_val]; omega), dif_neg (show ¬ (lane 2 v).1 - 128 < 128 by rw [lane_two_val]; omega)]
    have e : ∀ h, (⟨(lane 2 v).1 - 128 - 128, h⟩ : Fin 128) = v := fun h => Fin.ext (by simp only [lane_two_val]; omega)
    rw [e]
    exact seg_apply x W S B T M r v

/-- What the body writes to the block of group weights. -/
theorem out6_apply (r : Fin 2048) (g : Fin 3) :
    k0_pay1 (F := Ideal) (k0_pay8 (k0_pay3 x W S B T) (k0_pay4 M) A) (k0_pay9 (k0_pay3 x W S B T) (k0_pay4 M) A) (ix2 r g)
      = groupSoft (rowGroup (tileLogit x W S B T M r) (fun c g => A (ix2 c g))) g := by
  unfold k0_pay1 k0_pay9 groupSoft
  pointwise
  simp only [group_apply, bits_neg_inf]

/-- What the body writes to the block of partial sums. -/
theorem out8_apply (p : Fin 2) (v : Fin 128) :
    k0_pay2 (F := Ideal) (k0_pay6 (k0_pay3 x W S B T) (k0_pay4 M)) (k0_pay8 (k0_pay3 x W S B T) (k0_pay4 M) A)
        (k0_pay9 (k0_pay3 x W S B T) (k0_pay4 M) A) (ix3 0 p v)
      = if p.1 < 1 then ∑ r, segSoft (fun v => tileLogit x W S B T M r (lane 2 v)) v
        else if h : v.1 < 3 then ∑ r, groupSoft (rowGroup (tileLogit x W S B T M r) (fun c g => A (ix2 c g))) ⟨v.1, h⟩
        else 0 := by
  unfold k0_pay2
  pointwise
  simp only [seg_apply, out6_apply, dite_eq_ite]
  rfl

end tile

end Cert.Router

end
-- ==== Proof.Arrays.lean ====
module
public import proofs.«01_k».proof.Proof.KernelRow
public import proofs.«01_k».proof.Proof.Gen.KernelIdeal.Frame
public import Idealize.ShloMosaic.Lib.Pipeline.ValueKit
public import Idealize.ShloMosaic.Lib.Pointwise
@[expose] public section
/-! # The three arrays that the launch leaves

Each output array of the launch, index by index, over the arrays that enter it. -/
set_option maxRecDepth 16384
noncomputable section
namespace Cert.Router
open Idealize.ShloMosaic Idealize.SL.Sem
open Cert.KernelIdeal Cert.KernelIdeal.Gen
variable (m : (loc : Loc nD τ sig) → Buf (Elt Ideal) loc) (c : Dev nD)

/-- The logits of row `R` of the flattened batch. -/
def rowLogits (R : Fin 16384) : Fin 384 → EReal :=
  rowLogit (fun d => (V m c main_v0 : FVec Ideal S16384x2048 .f32) (ix2 R d))
    (fun d k => (V m c main_v23 : FVec Ideal S2048x16 .f32) (ix2 d k))
    (fun k => (V m c main_v30 : FVec Ideal S2x16 .f32) (ix2 0 k))
    (fun k => (V m c main_v30 : FVec Ideal S2x16 .f32) (ix2 1 k))
    (fun k l => (V m c main_v33 : FVec Ideal S16x384 .f32) (ix2 k l))
    (fun l => (V m c main_cst_0 : FVec Ideal S1x384 .f32) (ix2 0 l))

/-- The weights of the 64 hexagrams in row `R`, with the padding lanes behind them. -/
def rowHexa (R : Fin 16384) : Fin 128 → EReal := segSoft (fun v => rowLogits m c R (lane 2 v))

/-- The weights of the three groups in row `R`. -/
def rowMix (R : Fin 16384) : Fin 3 → EReal :=
  groupSoft (rowGroup (rowLogits m c R) (fun l g => (V m c main_v76 : FVec Ideal S384x3 .f32) (ix2 l g)))

/-- Row `r` of tile `t`. -/
def tileRow (t : Fin 8) (r : Fin 2048) : Fin 16384 := ⟨t.1 * 2048 + r.1, by omega⟩

/-- The block of the input that step `t` reads. -/
theorem idx_row : ∀ t, win0_0.index t = ![t.val, 0] := by decide +kernel
/-- The weights are read whole at every step. -/
theorem idx_1 : ∀ t, win0_1.index t = ![0, 0] := by decide +kernel
/-- So are the two correction rows. -/
theorem idx_2 : ∀ t, win0_2.index t = ![0, 0] := by decide +kernel
/-- So is the table of corners. -/
theorem idx_3 : ∀ t, win0_3.index t = ![0, 0] := by decide +kernel
/-- So is the mask. -/
theorem idx_4 : ∀ t, win0_4.index t = ![0, 0] := by decide +kernel
/-- So is the table of groups. -/
theorem idx_5 : ∀ t, win0_5.index t = ![0, 0] := by decide +kernel
/-- The block of group weights that step `t` writes. -/
theorem idx_6 : ∀ t, win0_6.index t = ![t.val, 0] := by decide +kernel
/-- The block of corner weights that step `t` writes. -/
theorem idx_7 : ∀ t, win0_7.index t = ![t.val, 0] := by decide +kernel
/-- The block of partial sums that step `t` writes. -/
theorem idx_8 : ∀ t, win0_8.index t = ![t.val, 0, 0] := by decide +kernel

/-- Row `r` of tile `t`'s block of the input is that row of the flattened batch. -/
theorem tile_x (t : Fin 8) (r d : Fin 2048) :
    (View.ld (iblk m c 0 t) r0_0 : FVec Ideal S2048x2048 .f32) (ix2 r d) = (V m c main_v0 : FVec Ideal S16384x2048 .f32) (ix2 (tileRow t r) d) := by
  rw [View.ld_apply]
  blk_ext [iblk, tileRow, idx_row t, Rect.idx_unit_val]

/-- The weights that a step reads. -/
theorem tile_w (t : Fin 8) (d : Fin 2048) (k : Fin 16) :
    (View.ld (iblk m c 1 t) r0_1 : FVec Ideal S2048x16 .f32) (ix2 d k) = (V m c main_v23 : FVec Ideal S2048x16 .f32) (ix2 d k) := by
  rw [View.ld_apply]
  blk_ext [iblk, idx_1 t, Rect.idx_unit_val]

/-- The first correction row that a step reads. -/
theorem tile_s (t : Fin 8) (k : Fin 16) :
    (View.ld (iblk m c 2 t) r0_2 : FVec Ideal S1x16 .f32) (ix2 0 k) = (V m c main_v30 : FVec Ideal S2x16 .f32) (ix2 0 k) := by
  rw [View.ld_apply]
  blk_ext [iblk, idx_2 t, Rect.idx_unit_val]

/-- The second correction row that a step reads. -/
theorem tile_b (t : Fin 8) (k : Fin 16) :
    (View.ld (iblk m c 2 t) r0_3 : FVec Ideal S1x16 .f32) (ix2 0 k) = (V m c main_v30 : FVec Ideal S2x16 .f32) (ix2 1 k) := by
  rw [View.ld_apply]
  blk_ext [iblk, idx_2 t, Rect.idx_unit_val]

/-- The table of corners that a step reads. -/
theorem tile_t (t : Fin 8) (k : Fin 16) (l : Fin 384) :
    (View.ld (iblk m c 3 t) r0_4 : FVec Ideal S16x384 .f32) (ix2 k l) = (V m c main_v33 : FVec Ideal S16x384 .f32) (ix2 k l) := by
  rw [View.ld_apply]
  blk_ext [iblk, idx_3 t, Rect.idx_unit_val]

/-- The mask that a step reads. -/
theorem tile_m (t : Fin 8) (l : Fin 384) :
    (View.ld (iblk m c 4 t) r0_5 : FVec Ideal S1x384 .f32) (ix2 0 l) = (V m c main_cst_0 : FVec Ideal S1x384 .f32) (ix2 0 l) := by
  rw [View.ld_apply]
  blk_ext [iblk, idx_4 t, Rect.idx_unit_val]

/-- The logits of a tile's row are the logits of that row of the batch. -/
theorem tile_row (t : Fin 8) (r : Fin 2048) :
    tileLogit (View.ld (iblk m c 0 t) r0_0) (View.ld (iblk m c 1 t) r0_1) (View.ld (iblk m c 2 t) r0_2) (View.ld (iblk m c 2 t) r0_3)
      (View.ld (iblk m c 3 t) r0_4) (View.ld (iblk m c 4 t) r0_5) r = rowLogits m c (tileRow t r) := by
  funext l
  unfold rowLogits tileLogit
  refine congrFun (congr (congr (congr (congr (congrArg₂ rowLogit (funext fun d => ?_) (funext fun d => funext fun k => ?_)) (funext fun k => ?_))
    (funext fun k => ?_)) (funext fun k => funext fun l => ?_)) (funext fun l => ?_)) l
  · exact tile_x m c t r d
  · exact tile_w m c t d k
  · exact tile_s m c t k
  · exact tile_b m c t k
  · exact tile_t m c t k l
  · exact tile_m m c t l

/-- The group table that every tile loads is the whole array. -/
theorem tile_table (t : Fin 8) :
    (fun l g => View.ld (iblk m c 5 t) r0_7 (ix2 l g)) = fun (l : Fin 384) (g : Fin 3) => V m c main_v76 (ix2 l g) := by
  funext l g
  rw [View.ld_apply]
  blk_ext [iblk, idx_5 t, Rect.idx_unit_val]

/-- The array of group weights after the launch. -/
def mixArray : FVec Ideal S16384x3 .f32 := fun j => rowMix m c (j 0) (j 1)

/-- The array of hexagram weights after the launch. -/
def hexaArray : FVec Ideal S16384x64 .f32 := fun j => rowHexa m c (j 0) ⟨(j 1).1, lt_trans (j 1).2 (by decide)⟩

/-- The array of the tiles' partial sums after the launch. -/
def sumArray : FVec Ideal S8x2x128 .f32 := fun j =>
  if (j 1).1 < 1 then ∑ r, rowHexa m c (tileRow (j 0) r) (j 2)
  else if h : (j 2).1 < 3 then ∑ r, rowMix m c (tileRow (j 0) r) ⟨(j 2).1, h⟩ else 0

/-- The array of group weights after the launch. -/
theorem array6 : (dats m 0 c).arrAt 6 cfg0.N = mixArray m c := by
  refine (dats m 0 c).arrAt_eq_of_covers 6 _ (by decide +kernel) fun t hf y => ?_
  blk_simp
  rw [after0_6]
  frame_out
  unfold k0_pay12 k0_pay13 k0_pay10 k0_pay11
  obtain ⟨r, v, rfl⟩ : ∃ r v, y = ix2 r v := ⟨y 0, y 1, eq_ix2 y⟩
  rw [out6_apply]
  refine (congrArg₂ (fun L A => groupSoft (rowGroup L A) v) (tile_row m c t r) (tile_table m c t)).trans ?_
  refine Eq.trans ?_ (congrArg (mixArray m c) (show ix2 (tileRow t r) v = _ from ?_))
  · rfl
  · blk_ext [tileRow, idx_6 t]

/-- The array of corner weights after the launch. -/
theorem array7 : (dats m 0 c).arrAt 7 cfg0.N = hexaArray m c := by
  refine (dats m 0 c).arrAt_eq_of_covers 7 _ (by decide +kernel) fun t hf y => ?_
  blk_simp
  rw [after0_7]
  frame_out
  unfold k0_pay10 k0_pay11
  obtain ⟨r, v, rfl⟩ : ∃ r v, y = ix2 r v := ⟨y 0, y 1, eq_ix2 y⟩
  rw [out7_apply]
  refine (congrArg (fun L : Fin 384 → EReal => segSoft (fun v => L (lane 2 v)) ⟨v.1, by omega⟩) (tile_row m c t r)).trans ?_
  refine Eq.trans ?_ (congrArg (hexaArray m c) (show ix2 (tileRow t r) v = _ from ?_))
  · rfl
  · blk_ext [tileRow, idx_7 t]

/-- The array of partial sums after the launch. -/
theorem array8 : (dats m 0 c).arrAt 8 cfg0.N = sumArray m c := by
  refine (dats m 0 c).arrAt_eq_of_covers 8 _ (by decide +kernel) fun t hf y => ?_
  blk_simp
  rw [after0_8]
  frame_out
  unfold k0_pay12 k0_pay13 k0_pay10 k0_pay11
  obtain ⟨z, p, v, rfl⟩ : ∃ z p v, y = ix3 z p v := ⟨y 0, y 1, y 2, eq_ix3 y⟩
  obtain rfl : z = 0 := Subsingleton.elim _ _
  rw [out8_apply]
  refine (congrArg₂ (fun (L : Fin 2048 → Fin 384 → EReal) A => if p.1 < 1 then ∑ r, segSoft (fun v => L r (lane 2 v)) v
        else if h : v.1 < 3 then ∑ r, groupSoft (rowGroup (L r) A) ⟨v.1, h⟩ else 0) (funext fun r => tile_row m c t r) (tile_table m c t)).trans ?_
  refine Eq.trans ?_ (congrArg (sumArray m c) (show ix3 t p v = _ from ?_))
  · rfl
  · blk_ext [idx_8 t]

end Cert.Router
end
-- ==== Proof.Tables.lean ====
/- The constant tables of the two programs: the kernel's are the reference's, laid out in three segments of 128 lanes and padded
   with zeros. -/
module

public import proofs.«01_k».proof.KernelIdeal
public import proofs.«01_k».proof.ReferenceIdeal
public import proofs.«01_k».proof.Proof.LayerNorm

@[expose] public section

noncomputable section

namespace Cert.Router

open Idealize.ShloMosaic

set_option maxRecDepth 100000

/-- The projection table (16 × 384), column by column: the first four columns of the first segment hold the transpose of the
    four corners' table in rows 0 and 1, the first eight of the second that of the eight corners' table in rows 2 to 4, the first 64
    of the third that of the 64 corners' table in rows 5 to 10; every other entry is zero. -/
theorem vertex_table : ∀ (k : Fin 16) (c : Fin 384), KernelIdeal.lit0 (KernelIdeal.S16x384.rowMajor (ix2 k c)) =
    if h : c.1 < 4 ∧ k.1 < 2 then ReferenceIdeal.lit1 (ReferenceIdeal.S4x2.rowMajor (ix2 ⟨c.1, h.1⟩ ⟨k.1, h.2⟩))
    else if h : (128 ≤ c.1 ∧ c.1 < 136) ∧ (2 ≤ k.1 ∧ k.1 < 5) then
      ReferenceIdeal.lit2 (ReferenceIdeal.S8x3.rowMajor (ix2 ⟨c.1 - 128, by omega⟩ ⟨k.1 - 2, by omega⟩))
    else if h : (256 ≤ c.1 ∧ c.1 < 320) ∧ (5 ≤ k.1 ∧ k.1 < 11) then
      ReferenceIdeal.lit0 (ReferenceIdeal.S64x6.rowMajor (ix2 ⟨c.1 - 256, by omega⟩ ⟨k.1 - 5, by omega⟩))
    else 0#32 := by decide +kernel

/-- A lane that carries a corner: one of the first 4, 8 or 64 of its segment. -/
def IsLane (c : Fin 384) : Prop := c.1 < 4 ∨ (128 ≤ c.1 ∧ c.1 < 136) ∨ (256 ≤ c.1 ∧ c.1 < 320)

instance (c : Fin 384) : Decidable (IsLane c) := inferInstanceAs (Decidable (_ ∨ _))

/-- The mask table: zero (of either sign) at the lanes that carry a corner, one at the lanes of padding. -/
theorem mask_table : ∀ c : Fin 384, if IsLane c
    then KernelIdeal.lit1 (KernelIdeal.S1x384.rowMajor (ix2 0 c)) = 0#32 ∨ KernelIdeal.lit1 (KernelIdeal.S1x384.rowMajor (ix2 0 c)) = 0x80000000#32
    else KernelIdeal.lit1 (KernelIdeal.S1x384.rowMajor (ix2 0 c)) = 0x3F800000#32 := by decide +kernel

/-- The table of the 64 corners' coordinates, in the third segment. -/
theorem hex_table : ∀ (c : Fin 384) (k : Fin 6), KernelIdeal.lit2 (KernelIdeal.S384x6.rowMajor (ix2 c k)) =
    if h : 256 ≤ c.1 ∧ c.1 < 320 then ReferenceIdeal.lit0 (ReferenceIdeal.S64x6.rowMajor (ix2 ⟨c.1 - 256, by omega⟩ k)) else 0#32 := by
  decide +kernel

/-- The table of the three anchors. -/
theorem anchor_table : ∀ (g : Fin 3) (k : Fin 6), KernelIdeal.lit3 (KernelIdeal.S3x6.rowMajor (ix2 g k)) =
    ReferenceIdeal.lit4 (ReferenceIdeal.S3x6.rowMajor (ix2 g k)) := by decide +kernel

/-- The groups of the four corners, in the first segment. -/
theorem four_table : ∀ (c : Fin 384) (g : Fin 3), KernelIdeal.lit4 (KernelIdeal.S384x3.rowMajor (ix2 c g)) =
    if h : c.1 < 4 then ReferenceIdeal.lit3 (ReferenceIdeal.S4x3.rowMajor (ix2 ⟨c.1, h⟩ g)) else 0#32 := by decide +kernel

/-- The selection of the eight corners, in the second segment. -/
theorem eight_table : ∀ (c : Fin 384) (v : Fin 8), KernelIdeal.lit5 (KernelIdeal.S384x8.rowMajor (ix2 c v)) =
    if c.1 = 128 + v.1 then 0x3F800000#32 else 0#32 := by decide +kernel

/-- The spectral groups of the 64 corners, in the third segment. -/
theorem spectral_table : ∀ (c : Fin 384) (g : Fin 3), KernelIdeal.lit6 (KernelIdeal.S384x3.rowMajor (ix2 c g)) =
    if h : 256 ≤ c.1 ∧ c.1 < 320 then ReferenceIdeal.lit5 (ReferenceIdeal.S64x3.rowMajor (ix2 ⟨c.1 - 256, by omega⟩ g)) else 0#32 := by
  decide +kernel

/-- The exponents in the square's table are not full: every entry is a real number. -/
theorem real_two : ∀ (j : Fin 4) (k : Fin 2), ((ReferenceIdeal.lit1 (ReferenceIdeal.S4x2.rowMajor (ix2 j k))).extractLsb' 23 8).toNat ≠ 255 := by
  decide +kernel

/-- Nor are those in the cube's table. -/
theorem real_three : ∀ (j : Fin 8) (k : Fin 3), ((ReferenceIdeal.lit2 (ReferenceIdeal.S8x3.rowMajor (ix2 j k))).extractLsb' 23 8).toNat ≠ 255 := by
  decide +kernel

/-- Nor are those in the six-dimensional cube's table. -/
theorem real_six : ∀ (j : Fin 64) (k : Fin 6), ((ReferenceIdeal.lit0 (ReferenceIdeal.S64x6.rowMajor (ix2 j k))).extractLsb' 23 8).toNat ≠ 255 := by
  decide +kernel

/-- Nor are those in the table of the four corners' groups. -/
theorem real_four_groups : ∀ (j : Fin 4) (k : Fin 3), ((ReferenceIdeal.lit3 (ReferenceIdeal.S4x3.rowMajor (ix2 j k))).extractLsb' 23 8).toNat ≠ 255 := by
  decide +kernel

/-- Nor are those in the table of anchors. -/
theorem real_anchor : ∀ (j : Fin 3) (k : Fin 6), ((ReferenceIdeal.lit4 (ReferenceIdeal.S3x6.rowMajor (ix2 j k))).extractLsb' 23 8).toNat ≠ 255 := by
  decide +kernel

/-- Nor are those in the table of spectral groups. -/
theorem real_spectral : ∀ (j : Fin 64) (k : Fin 3), ((ReferenceIdeal.lit5 (ReferenceIdeal.S64x3.rowMajor (ix2 j k))).extractLsb' 23 8).toNat ≠ 255 := by
  decide +kernel

end Cert.Router

end
-- ==== Proof.Reals.lean ====
module
public import proofs.«01_k».proof.Proof.Spec
public import proofs.«01_k».proof.Proof.Tables
@[expose] public section
/-! # Which values are real numbers

Behind the hyperbolic tangent and the softmax every value of the two programs is a real number. -/
set_option maxRecDepth 16384
noncomputable section
namespace Cert.Router
open Idealize.ShloMosaic

/-- An extended real that is a real number. -/
def IsReal (e : EReal) : Prop := ∃ r : ℝ, e = r

/-- A real number is one. -/
theorem IsReal.coe (r : ℝ) : IsReal (r : EReal) := ⟨r, rfl⟩

/-- Sums of real numbers are real. -/
theorem IsReal.add {a b : EReal} (ha : IsReal a) (hb : IsReal b) : IsReal (a + b) := by
  obtain ⟨a, rfl⟩ := ha; obtain ⟨b, rfl⟩ := hb; exact ⟨a + b, by norm_cast⟩

/-- Differences of real numbers are real. -/
theorem IsReal.sub {a b : EReal} (ha : IsReal a) (hb : IsReal b) : IsReal (a - b) := by
  obtain ⟨a, rfl⟩ := ha; obtain ⟨b, rfl⟩ := hb; exact ⟨a - b, by norm_cast⟩

/-- Products of real numbers are real. -/
theorem IsReal.mul {a b : EReal} (ha : IsReal a) (hb : IsReal b) : IsReal (a * b) := by
  obtain ⟨a, rfl⟩ := ha; obtain ⟨b, rfl⟩ := hb; exact ⟨a * b, by norm_cast⟩

/-- Finite sums of real numbers are real. -/
theorem IsReal.sum {ι : Type*} [Fintype ι] {f : ι → EReal} (h : ∀ i, IsReal (f i)) : IsReal (∑ i, f i) := by
  choose r hr using h
  exact ⟨∑ i, r i, by rw [coe_sum]; exact Finset.sum_congr rfl fun i _ => hr i⟩

/-- A real number is not plus infinity. -/
theorem IsReal.ne_top {a : EReal} (h : IsReal a) : a ≠ ⊤ := by obtain ⟨r, rfl⟩ := h; exact EReal.coe_ne_top r

/-- A real number is not minus infinity. -/
theorem IsReal.ne_bot {a : EReal} (h : IsReal a) : a ≠ ⊥ := by obtain ⟨r, rfl⟩ := h; exact EReal.coe_ne_bot r

/-- The corners of the square have real coordinates. -/
theorem square_real (j k) : IsReal (square j k) := bits_real _ (real_two j k)
/-- So have those of the cube. -/
theorem cube_real (j k) : IsReal (cube j k) := bits_real _ (real_three j k)
/-- So have those of the six-dimensional cube. -/
theorem hexa_real (j k) : IsReal (hexa j k) := bits_real _ (real_six j k)
/-- The groups of the 4 corners are real. -/
theorem fourGroup_real (j g) : IsReal (fourGroup j g) := bits_real _ (real_four_groups j g)
/-- The anchors are real. -/
theorem anchor_real (j g) : IsReal (anchor j g) := bits_real _ (real_anchor j g)
/-- The spectral groups are real. -/
theorem spectralGroup_real (j g) : IsReal (spectralGroup j g) := bits_real _ (real_spectral j g)

namespace Data
variable (D : Data)

/-- Whatever the arguments are, a corner's logit is a real number. -/
theorem corner_real {n q : ℕ} (w : Fin n → Fin 2048 → EReal) (T : Fin q → Fin n → EReal) (hT : ∀ j k, IsReal (T j k))
    (b : Fin 4) (s : Fin 4096) (j : Fin q) : IsReal (D.corner w T b s j) := by
  obtain ⟨τ, h0, hτ⟩ := temp_real (Ideal.exp D.logTemp)
  unfold corner temp
  rw [hτ]
  obtain ⟨r, hr⟩ := IsReal.sum fun k : Fin n => IsReal.mul (tanh_real (projected (D.x b s) D.gain D.shift (w k))) (hT j k)
  rw [hr, div_real _ _ h0.ne']
  exact ⟨_, rfl⟩

/-- The logits of the 4 corners are real. -/
theorem logit2_real (b s j) : IsReal (D.logit2 b s j) := D.corner_real _ _ square_real b s j
/-- The logits of the 8 corners are real. -/
theorem logit3_real (b s j) : IsReal (D.logit3 b s j) := D.corner_real _ _ cube_real b s j
/-- The logits of the 64 corners are real. -/
theorem logit6_real (b s j) : IsReal (D.logit6 b s j) := D.corner_real _ _ hexa_real b s j

/-- The gate is real. -/
theorem gate_isReal : IsReal D.gate := gate_real D.spectral

/-- The group logits are real. -/
theorem groupLogit_real (b s g) : IsReal (D.groupLogit b s g) := by
  have h1 : IsReal (1 : EReal) := ⟨1, rfl⟩
  refine .add (.add (.mul (.coe _) (.sum fun j => .mul (.coe _) (fourGroup_real j g))) (.mul (.coe _) (.sum fun v => .mul (.coe _) (.coe _))))
    (.mul (.coe _) (.add (.mul (h1.sub D.gate_isReal) (.sum fun k => .mul (.sum fun j => .mul (.coe _) (hexa_real j k)) (anchor_real g k)))
      (.mul D.gate_isReal (.sum fun j => .mul (.coe _) (spectralGroup_real j g)))))

end Data
end Cert.Router
end
-- ==== Proof.Meet.lean ====
module
public import proofs.«01_k».proof.Proof.Entry
public import proofs.«01_k».proof.Proof.Arrays
public import proofs.«01_k».proof.Proof.Reals
@[expose] public section
/-! # The kernel's rows are the reference's rows

Row by row, the launch's group weights and corner weights are those of `Spec`. -/
set_option maxRecDepth 16384
noncomputable section
namespace Cert.Router
open Idealize.ShloMosaic Idealize.SL.Sem
open Cert.KernelIdeal Cert.KernelIdeal.Gen

/-- The pattern of zero. -/
theorem bits_zero : Ideal.ofBits .f32 0x00000000#32 = 0 := by simp [Ideal.ofBits, Ideal.ieee]

/-- The pattern of minus zero. -/
theorem bits_neg_zero : Ideal.ofBits .f32 0x80000000#32 = 0 := by simp [Ideal.ofBits, Ideal.ieee]

/-- The pattern of one. -/
theorem bits_one : Ideal.ofBits .f32 0x3F800000#32 = 1 := by
  rw [bits_normal _ (by decide) (by decide) (by decide), ← EReal.coe_one]; congr 1; norm_num [Nat.shiftRight_eq_div_pow]

/-- Multiplying every coefficient by the reciprocal of the temperature divides the sum by it. -/
theorem scaled_sum {ι : Type*} [Fintype ι] (p T : ι → EReal) (hp : ∀ i, IsReal (p i)) (hT : ∀ i, IsReal (T i)) (τ : ℝ) (h : τ ≠ 0) :
    ∑ i, p i * (T i * Ideal.div 1 (τ : EReal)) = Ideal.div (∑ i, p i * T i) τ := by
  choose p' hp' using hp
  choose T' hT' using hT
  simp only [hp', hT', ← EReal.coe_one, div_real _ _ h, ← EReal.coe_mul, ← coe_sum]
  congr 1
  rw [Finset.sum_div]
  exact Finset.sum_congr rfl fun i _ => by ring

/-- The batch of a row of the flattened input. -/
abbrev rowB (R : Fin 16384) : Fin 4 := ⟨R.1 / 4096, by omega⟩
/-- The position of a row in its batch. -/
abbrev rowS (R : Fin 16384) : Fin 4096 := ⟨R.1 % 4096, by omega⟩

/-- The entries of the stacked projections are real numbers. -/
theorem Data.Tame.proj {D : Data} (hT : D.Tame) (k : Fin 16) (d : Fin 2048) : ∃ r : ℝ, D.proj k d = r := by
  unfold Data.proj
  split_ifs
  · exact hT.two _ d
  · exact hT.three _ d
  · exact hT.six _ d
  · exact ⟨0, rfl⟩

/-- Where the two projections stand among the eleven. -/
def at2 (i : Fin 2) : Fin 16 := ⟨i.1, by omega⟩
/-- Where the three projections stand among the eleven. -/
def at3 (i : Fin 3) : Fin 16 := ⟨i.1 + 2, by omega⟩
/-- Where the six projections stand among the eleven. -/
def at6 (i : Fin 6) : Fin 16 := ⟨i.1 + 5, by omega⟩

/-- The first two of the stacked projections. -/
theorem proj_at2 (D : Data) (i : Fin 2) : D.proj (at2 i) = D.two i := by
  funext d
  unfold Data.proj at2
  rw [dif_pos (show i.1 < 11 by omega), dif_pos (show i.1 < 2 by omega)]

/-- The next three of the stacked projections. -/
theorem proj_at3 (D : Data) (i : Fin 3) : D.proj (at3 i) = D.three i := by
  funext d
  unfold Data.proj at3
  rw [dif_pos (show i.1 + 2 < 11 by omega), dif_neg (show ¬ i.1 + 2 < 2 by omega), dif_pos (show i.1 + 2 - 2 < 3 by omega)]
  rfl

/-- The last six of the stacked projections. -/
theorem proj_at6 (D : Data) (i : Fin 6) : D.proj (at6 i) = D.six i := by
  funext d
  unfold Data.proj at6
  rw [dif_pos (show i.1 + 5 < 11 by omega), dif_neg (show ¬ i.1 + 5 < 2 by omega), dif_neg (show ¬ i.1 + 5 - 2 < 3 by omega)]
  exact congrArg (fun k => D.six k d) (Fin.ext (by show i.1 + 5 - 2 - 3 = i.1; omega))

variable (m : (loc : Loc nD τ sig) → Buf (Elt Ideal) loc) (c : Dev nD)

/-- The hidden values of a row, from the arrays that enter the launch. -/
def hidden (R : Fin 16384) (k : Fin 16) : EReal :=
  rowHid (fun d => (V m c main_v0 : FVec Ideal S16384x2048 .f32) (ix2 R d))
    (fun d k => (V m c main_v23 : FVec Ideal S2048x16 .f32) (ix2 d k))
    (fun k => (V m c main_v30 : FVec Ideal S2x16 .f32) (ix2 0 k))
    (fun k => (V m c main_v30 : FVec Ideal S2x16 .f32) (ix2 1 k)) k

/-- A hidden value is the hyperbolic tangent of the normalised row's projection. -/
theorem hidden_eq (hT : (kernelData m c).Tame) (R : Fin 16384) (k : Fin 16) (hk : k.1 < 11) :
    hidden m c R k = Ideal.tanh (projected ((kernelData m c).x (rowB R) (rowS R)) (kernelData m c).gain (kernelData m c).shift ((kernelData m c).proj k)) := by
  choose ξ hξ using hT.x (rowB R) (rowS R)
  choose γ hγ using hT.gain
  choose ω hω using hT.proj k
  rw [← projected_eq _ _ _ _ ξ γ ω hξ hγ hω]
  refine (congrFun (congr (congr (congrArg₂ rowHid (funext fun d => entry_x m c R d) (funext fun d => funext fun k => entry_w m c d k))
    (funext fun k => entry_s m c k)) (funext fun k => entry_b m c k)) k).trans ?_
  unfold rowHid
  simp only [if_pos hk]

/-- A row's logit at a lane, from the hidden values. -/
theorem rowLogits_eq (R : Fin 16384) (l : Fin 384) :
    rowLogits m c R l = ∑ k, hidden m c R k * (Ideal.ofBits .f32 (lit0 (S16x384.rowMajor (ix2 k l))) * Ideal.div 1 (kernelData m c).temp)
      + Ideal.ofBits .f32 (lit1 (S1x384.rowMajor (ix2 0 l))) * ⊥ := by
  exact congrArg₂ (· + ·) (Finset.sum_congr rfl fun k _ => congrArg (hidden m c R k * ·) (entry_t m c k l)) (congrArg (· * ⊥) (entry_m m c l))

/-- At a lane of padding the logit is minus infinity. -/
theorem logit_pad (R : Fin 16384) (l : Fin 384) (h : ¬ IsLane l) : rowLogits m c R l = ⊥ := by
  have e := mask_table l
  rw [if_neg h] at e
  rw [rowLogits_eq, e, bits_one, one_mul, EReal.add_bot]

/-- At a lane that carries a corner the logit is that corner's. -/
theorem logit_lane (hT : (kernelData m c).Tame) {n q : ℕ} (e : Fin n → Fin 16) (he : Function.Injective e) (h11 : ∀ i, (e i).1 < 11)
    (w : Fin n → Fin 2048 → EReal) (hw : ∀ i, (kernelData m c).proj (e i) = w i) (T : Fin q → Fin n → EReal)
    (hTr : ∀ j i, IsReal (T j i)) (R : Fin 16384) (l : Fin 384) (hl : IsLane l) (j : Fin q)
    (ht : ∀ i, Ideal.ofBits .f32 (lit0 (S16x384.rowMajor (ix2 (e i) l))) = T j i)
    (h0 : ∀ k, k ∉ Set.range e → lit0 (S16x384.rowMajor (ix2 k l)) = 0#32) :
    rowLogits m c R l = (kernelData m c).corner w T (rowB R) (rowS R) j := by
  have em := mask_table l
  rw [if_pos hl] at em
  have em' : Ideal.ofBits .f32 (lit1 (S1x384.rowMajor (ix2 0 l))) = 0 := by
    rcases em with em | em <;> rw [em]
    · exact bits_zero
    · exact bits_neg_zero
  rw [rowLogits_eq, em', zero_mul, add_zero, sum_embed e he _ fun k hk => by rw [h0 k hk, bits_zero, zero_mul, mul_zero]]
  obtain ⟨τ, hτ0, hτ⟩ := temp_real (Ideal.exp (kernelData m c).logTemp)
  have hτ' : (kernelData m c).temp = (τ : EReal) := hτ
  unfold Data.corner
  simp only [ht, hidden_eq m c hT R _ (h11 _), hw]
  rw [hτ']
  exact scaled_sum _ _ (fun i => tanh_real _) (hTr j) τ hτ0.ne'

/-- Where the 4 corners stand in their segment. -/
def in2 (j : Fin 4) : Fin 128 := ⟨j.1, by omega⟩
/-- Where the 8 corners stand in their segment. -/
def in3 (j : Fin 8) : Fin 128 := ⟨j.1, by omega⟩
/-- Where the 64 corners stand in their segment. -/
def in6 (j : Fin 64) : Fin 128 := ⟨j.1, by omega⟩

/-- No two of the 4 corners share a lane. -/
theorem in2_inj : Function.Injective in2 := fun a b h => Fin.ext (by have e : (in2 a).1 = (in2 b).1 := congrArg Fin.val h; exact e)
/-- No two of the 8 corners share a lane. -/
theorem in3_inj : Function.Injective in3 := fun a b h => Fin.ext (by have e : (in3 a).1 = (in3 b).1 := congrArg Fin.val h; exact e)
/-- No two of the 64 corners share a lane. -/
theorem in6_inj : Function.Injective in6 := fun a b h => Fin.ext (by have e : (in6 a).1 = (in6 b).1 := congrArg Fin.val h; exact e)

/-- The kernel's logits of the 4 corners are the reference's. -/
theorem seg2_logit (hT : (kernelData m c).Tame) (R : Fin 16384) (j : Fin 4) :
    rowLogits m c R (lane 0 (in2 j)) = (kernelData m c).logit2 (rowB R) (rowS R) j := by
  have hv : (lane 0 (in2 j)).1 = j.1 := lane_zero_val _
  refine logit_lane m c hT at2 (fun a b h => Fin.ext (by have e : (at2 a).1 = (at2 b).1 := congrArg Fin.val h; exact e)) (fun i => by show i.1 < 11; omega) _ (proj_at2 _) square square_real R _
    (.inl (by omega)) j (fun i => ?_) fun k hk => ?_
  · unfold square
    rw [vertex_table, dif_pos (⟨by omega, i.2⟩ : (lane 0 (in2 j)).1 < 4 ∧ (at2 i).1 < 2)]
    exact congrArg (fun j => Ideal.ofBits .f32 (ReferenceIdeal.lit1 (ReferenceIdeal.S4x2.rowMajor (ix2 j i)))) (Fin.ext hv)
  · rw [vertex_table, dif_neg fun h => hk ⟨⟨k.1, h.2⟩, rfl⟩, dif_neg (by omega), dif_neg (by omega)]

/-- The kernel's logits of the 8 corners are the reference's. -/
theorem seg3_logit (hT : (kernelData m c).Tame) (R : Fin 16384) (j : Fin 8) :
    rowLogits m c R (lane 1 (in3 j)) = (kernelData m c).logit3 (rowB R) (rowS R) j := by
  have hv : (lane 1 (in3 j)).1 = 128 + j.1 := lane_one_val _
  refine logit_lane m c hT at3 (fun a b h => Fin.ext (by have := congrArg Fin.val h; simp only [at3] at this; omega))
    (fun i => by show i.1 + 2 < 11; omega) _ (proj_at3 _) cube cube_real R _
    (.inr (.inl (by omega))) j (fun i => ?_) fun k hk => ?_
  · unfold cube
    have hi : (at3 i).1 = i.1 + 2 := rfl
    rw [vertex_table, dif_neg (by omega), dif_pos (by omega)]
    exact congrArg₂ (fun j i => Ideal.ofBits .f32 (ReferenceIdeal.lit2 (ReferenceIdeal.S8x3.rowMajor (ix2 j i))))
      (Fin.ext (by show (lane 1 (in3 j)).1 - 128 = j.1; omega)) (Fin.ext (by show (at3 i).1 - 2 = i.1; omega))
  · rw [vertex_table, dif_neg (by omega), dif_neg fun h => hk ⟨⟨k.1 - 2, by omega⟩, Fin.ext (by show k.1 - 2 + 2 = k.1; omega)⟩, dif_neg (by omega)]

/-- The kernel's logits of the 64 corners are the reference's. -/
theorem seg6_logit (hT : (kernelData m c).Tame) (R : Fin 16384) (j : Fin 64) :
    rowLogits m c R (lane 2 (in6 j)) = (kernelData m c).logit6 (rowB R) (rowS R) j := by
  have hv : (lane 2 (in6 j)).1 = 256 + j.1 := lane_two_val _
  refine logit_lane m c hT at6 (fun a b h => Fin.ext (by have := congrArg Fin.val h; simp only [at6] at this; omega))
    (fun i => by show i.1 + 5 < 11; omega) _ (proj_at6 _) hexa hexa_real R _
    (.inr (.inr (by omega))) j (fun i => ?_) fun k hk => ?_
  · unfold hexa
    have hi : (at6 i).1 = i.1 + 5 := rfl
    rw [vertex_table, dif_neg (by omega), dif_neg (by omega), dif_pos (by omega)]
    exact congrArg₂ (fun j i => Ideal.ofBits .f32 (ReferenceIdeal.lit0 (ReferenceIdeal.S64x6.rowMajor (ix2 j i))))
      (Fin.ext (by show (lane 2 (in6 j)).1 - 256 = j.1; omega)) (Fin.ext (by show (at6 i).1 - 5 = i.1; omega))
  · rw [vertex_table, dif_neg (by omega), dif_neg (by omega), dif_neg fun h => hk ⟨⟨k.1 - 5, by omega⟩, Fin.ext (by show k.1 - 5 + 5 = k.1; omega)⟩]

/-- The lanes of a segment behind its corners are padding. -/
theorem seg2_pad (R : Fin 16384) (v : Fin 128) (h : v ∉ Set.range in2) : rowLogits m c R (lane 0 v) = ⊥ := by
  have hv : (lane 0 v).1 = v.1 := lane_zero_val _
  have h4 : ¬ v.1 < 4 := fun h' => h ⟨⟨v.1, h'⟩, rfl⟩
  exact logit_pad m c R _ (by unfold IsLane; omega)

/-- Outside the 8 corners the second segment is masked. -/
theorem seg3_pad (R : Fin 16384) (v : Fin 128) (h : v ∉ Set.range in3) : rowLogits m c R (lane 1 v) = ⊥ := by
  have hv : (lane 1 v).1 = 128 + v.1 := lane_one_val _
  have h4 : ¬ v.1 < 8 := fun h' => h ⟨⟨v.1, h'⟩, rfl⟩
  exact logit_pad m c R _ (by unfold IsLane; omega)

/-- Outside the 64 corners the third segment is masked. -/
theorem seg6_pad (R : Fin 16384) (v : Fin 128) (h : v ∉ Set.range in6) : rowLogits m c R (lane 2 v) = ⊥ := by
  have hv : (lane 2 v).1 = 256 + v.1 := lane_two_val _
  have h4 : ¬ v.1 < 64 := fun h' => h ⟨⟨v.1, h'⟩, rfl⟩
  exact logit_pad m c R _ (by unfold IsLane; omega)

/-- The softmax of a segment whose padding lanes are minus infinity is the softmax of its corners. -/
theorem segSoft_eq {q : ℕ} (e : Fin (q + 1) → Fin 128) (l' : Fin 128 → EReal) (l : Fin (q + 1) → EReal)
    (h : ∀ i, l' (e i) = l i) (h0 : ∀ k, k ∉ Set.range e → l' k = ⊥) (hl : ∀ i, IsReal (l i)) (v : Fin 128) :
    segSoft l' v = (share l' v : EReal) := by
  refine softmax_mul l' (fun k => ?_) ⟨e 0, by rw [h]; exact (hl 0).ne_bot⟩ v
  by_cases hk : k ∈ Set.range e
  · obtain ⟨i, rfl⟩ := hk
    rw [h]; exact (hl i).ne_top
  · rw [h0 k hk]; exact bot_ne_top

/-- The launch's corner weights are the reference's. -/
theorem rowHexa_eq (hT : (kernelData m c).Tame) (R : Fin 16384) (j : Fin 64) :
    rowHexa m c R (in6 j) = ((kernelData m c).hexaWeight (rowB R) (rowS R) j : EReal) := by
  unfold rowHexa Data.hexaWeight
  rw [segSoft_eq in6 _ _ (seg6_logit m c hT R) (seg6_pad m c R) ((kernelData m c).logit6_real _ _),
    share_embed in6 in6_inj (l' := fun v => rowLogits m c R (lane 2 v)) (seg6_logit m c hT R) (seg6_pad m c R)]

/-- The mixing weights are shares. -/
theorem hostMix_eq {D : Data} (hT : D.Tame) (g : Fin 3) : hostMix D g = (share D.scale g : EReal) := softmax_div _ hT.scale_top hT.scale_bot g

/-- The group weights of a corner are shares. -/
theorem hostGroup_eq {D : Data} (hT : D.Tame) (v : Fin 8) (g : Fin 3) : hostGroup D v g = (share (D.group v) g : EReal) :=
  softmax_div _ (hT.group_top v) (hT.group_bot v) g

/-- The group table at the lanes of the four corners, -/
theorem table2 (hT : (kernelData m c).Tame) (j : Fin 4) (g : Fin 3) :
    (V m c main_v76 : FVec Ideal S384x3 .f32) (ix2 (lane 0 (in2 j)) g) = (share (kernelData m c).scale 0 : EReal) * fourGroup j g := by
  have hv : (lane 0 (in2 j)).1 = j.1 := lane_zero_val _
  rw [entry_a, hostMix_eq hT, four_table, dif_pos (by omega)]
  have h5 : ∀ v, lit5 (S384x8.rowMajor (ix2 (lane 0 (in2 j)) v)) = 0#32 := fun v => by rw [eight_table, if_neg (by omega)]
  have h2 : ∀ k, lit2 (S384x6.rowMajor (ix2 (lane 0 (in2 j)) k)) = 0#32 := fun v => by rw [hex_table, dif_neg (by omega)]
  have h6 : lit6 (S384x3.rowMajor (ix2 (lane 0 (in2 j)) g)) = 0#32 := by rw [spectral_table, dif_neg (by omega)]
  simp only [h5, h2, h6, bits_zero, zero_mul, Finset.sum_const_zero, mul_zero, add_zero]
  exact congrArg (fun j => _ * fourGroup j g) (Fin.ext hv)

/-- at the lanes of the eight corners, -/
theorem table3 (hT : (kernelData m c).Tame) (j : Fin 8) (g : Fin 3) :
    (V m c main_v76 : FVec Ideal S384x3 .f32) (ix2 (lane 1 (in3 j)) g)
      = (share (kernelData m c).scale 1 : EReal) * (share ((kernelData m c).group j) g : EReal) := by
  have hv : (lane 1 (in3 j)).1 = 128 + j.1 := lane_one_val _
  have h4 : lit4 (S384x3.rowMajor (ix2 (lane 1 (in3 j)) g)) = 0#32 := by rw [four_table, dif_neg (by omega)]
  have h5 : ∀ v, Ideal.ofBits .f32 (lit5 (S384x8.rowMajor (ix2 (lane 1 (in3 j)) v))) * hostGroup (kernelData m c) v g
      = if v = j then hostGroup (kernelData m c) v g else 0 := fun v => by
    by_cases h : v = j
    · rw [eight_table, if_pos (by rw [hv, h]), if_pos h, bits_one, one_mul]
    · rw [eight_table, if_neg (fun h' => h (Fin.ext (by omega))), if_neg h, bits_zero, zero_mul]
  have h2 : ∀ k, lit2 (S384x6.rowMajor (ix2 (lane 1 (in3 j)) k)) = 0#32 := fun v => by rw [hex_table, dif_neg (by omega)]
  have h6 : lit6 (S384x3.rowMajor (ix2 (lane 1 (in3 j)) g)) = 0#32 := by rw [spectral_table, dif_neg (by omega)]
  rw [entry_a]
  simp only [h4, h5, h2, h6, bits_zero, zero_mul, Finset.sum_const_zero, mul_zero, add_zero, zero_add, Finset.sum_ite_eq', Finset.mem_univ, if_true]
  rw [hostMix_eq hT, hostGroup_eq hT]

/-- and at the lanes of the 64 corners. -/
theorem table6 (hT : (kernelData m c).Tame) (j : Fin 64) (g : Fin 3) :
    (V m c main_v76 : FVec Ideal S384x3 .f32) (ix2 (lane 2 (in6 j)) g)
      = (share (kernelData m c).scale 2 : EReal) * ((1 - (kernelData m c).gate) * ∑ k, hexa j k * anchor g k + (kernelData m c).gate * spectralGroup j g) := by
  have hv : (lane 2 (in6 j)).1 = 256 + j.1 := lane_two_val _
  have hj : (⟨(lane 2 (in6 j)).1 - 256, by omega⟩ : Fin 64) = j := Fin.ext (by show (lane 2 (in6 j)).1 - 256 = j.1; omega)
  have h4 : lit4 (S384x3.rowMajor (ix2 (lane 2 (in6 j)) g)) = 0#32 := by rw [four_table, dif_neg (by omega)]
  have h5 : ∀ v, lit5 (S384x8.rowMajor (ix2 (lane 2 (in6 j)) v)) = 0#32 := fun v => by rw [eight_table, if_neg (by omega)]
  have h2 : ∀ k, Ideal.ofBits .f32 (lit2 (S384x6.rowMajor (ix2 (lane 2 (in6 j)) k))) = hexa j k := fun k => by
    rw [hex_table, dif_pos (by omega), hj]; rfl
  have h3 : ∀ k, Ideal.ofBits .f32 (lit3 (S3x6.rowMajor (ix2 g k))) = anchor g k := fun k => by rw [anchor_table]; rfl
  have h6 : Ideal.ofBits .f32 (lit6 (S384x3.rowMajor (ix2 (lane 2 (in6 j)) g))) = spectralGroup j g := by
    rw [spectral_table, dif_pos (by omega), hj]; rfl
  rw [entry_a]
  simp only [h4, h5, h2, h3, h6, bits_zero, zero_mul, Finset.sum_const_zero, mul_zero, add_zero, zero_add, hostMix_eq hT]

/-- Distributing the mixing weights over the three sums. -/
theorem mix_real (p : Fin 4 → ℝ) (q : Fin 8 → ℝ) (r : Fin 64 → ℝ) (a₀ a₁ a₂ γ : ℝ) (F : Fin 4 → ℝ) (G : Fin 8 → ℝ)
    (H : Fin 64 → Fin 6 → ℝ) (A : Fin 6 → ℝ) (S : Fin 64 → ℝ) :
    ∑ j, p j * (a₀ * F j) + (∑ v, q v * (a₁ * G v) + ∑ j, r j * (a₂ * ((1 - γ) * ∑ k, H j k * A k + γ * S j)))
      = a₀ * ∑ j, p j * F j + a₁ * ∑ v, q v * G v + a₂ * ((1 - γ) * ∑ k, (∑ j, r j * H j k) * A k + γ * ∑ j, r j * S j) := by
  have e1 : ∑ k, (∑ j, r j * H j k) * A k = ∑ j, r j * ∑ k, H j k * A k := by
    simp only [Finset.sum_mul, Finset.mul_sum]
    rw [Finset.sum_comm]
    exact Finset.sum_congr rfl fun j _ => Finset.sum_congr rfl fun k _ => by ring
  rw [e1, add_assoc]
  congr 1
  · rw [Finset.mul_sum]; exact Finset.sum_congr rfl fun j _ => by ring
  congr 1
  · rw [Finset.mul_sum]; exact Finset.sum_congr rfl fun j _ => by ring
  · rw [Finset.mul_sum, Finset.mul_sum, ← Finset.sum_add_distrib, Finset.mul_sum]
    exact Finset.sum_congr rfl fun j _ => by ring

/-- The launch's group logits are the reference's. -/
theorem rowGroup_eq (hT : (kernelData m c).Tame) (R : Fin 16384) (g : Fin 3) :
    rowGroup (rowLogits m c R) (fun l g => (V m c main_v76 : FVec Ideal S384x3 .f32) (ix2 l g)) g = (kernelData m c).groupLogit (rowB R) (rowS R) g := by
  unfold rowGroup Data.groupLogit
  simp only [segSoft_eq in2 (fun v => rowLogits m c R (lane 0 v)) _ (seg2_logit m c hT R) (seg2_pad m c R) ((kernelData m c).logit2_real _ _),
    segSoft_eq in3 (fun v => rowLogits m c R (lane 1 v)) _ (seg3_logit m c hT R) (seg3_pad m c R) ((kernelData m c).logit3_real _ _),
    segSoft_eq in6 (fun v => rowLogits m c R (lane 2 v)) _ (seg6_logit m c hT R) (seg6_pad m c R) ((kernelData m c).logit6_real _ _)]
  rw [sum_share_embed in2 in2_inj (l' := fun v => rowLogits m c R (lane 0 v)) (seg2_logit m c hT R) (seg2_pad m c R)
      (fun v => (V m c main_v76 : FVec Ideal S384x3 .f32) (ix2 (lane 0 v) g)),
    sum_share_embed in3 in3_inj (l' := fun v => rowLogits m c R (lane 1 v)) (seg3_logit m c hT R) (seg3_pad m c R)
      (fun v => (V m c main_v76 : FVec Ideal S384x3 .f32) (ix2 (lane 1 v) g)),
    sum_share_embed in6 in6_inj (l' := fun v => rowLogits m c R (lane 2 v)) (seg6_logit m c hT R) (seg6_pad m c R)
      (fun v => (V m c main_v76 : FVec Ideal S384x3 .f32) (ix2 (lane 2 v) g))]
  simp only [table2 m c hT, table3 m c hT, table6 m c hT]
  choose F hF using fourGroup_real
  choose H hH using hexa_real
  choose A hA using anchor_real
  choose S hS using spectralGroup_real
  obtain ⟨γ, hγ⟩ := (kernelData m c).gate_isReal
  simp only [hF, hH, hA, hS, hγ, ← EReal.coe_one, ← EReal.coe_sub, ← EReal.coe_mul, ← coe_sum, ← EReal.coe_add]
  rw [mix_real]

/-- The launch's group weights are the reference's. -/
theorem rowMix_eq (hT : (kernelData m c).Tame) (R : Fin 16384) (g : Fin 3) :
    rowMix m c R g = ((kernelData m c).groupWeight (rowB R) (rowS R) g : EReal) := by
  unfold rowMix groupSoft Data.groupWeight
  rw [show rowGroup (rowLogits m c R) (fun l g => (V m c main_v76 : FVec Ideal S384x3 .f32) (ix2 l g)) = (kernelData m c).groupLogit (rowB R) (rowS R)
    from funext fun g => rowGroup_eq m c hT R g]
  exact softmax_mul _ (fun j => ((kernelData m c).groupLogit_real _ _ j).ne_top) ⟨0, ((kernelData m c).groupLogit_real _ _ 0).ne_bot⟩ g

end Cert.Router
end
-- ==== Proof.Tail.lean ====
module
public import proofs.«01_k».proof.Proof.Arrays
public import proofs.«01_k».proof.Proof.Spec
public import Idealize.ShloMosaic.Lib.StableHlo.ReadAt
public import Idealize.ShloMosaic.Lib.Tactic.CleanTypes
@[expose] public section
/-! # What the host operations after the launch make of its arrays -/
set_option maxRecDepth 16384
noncomputable section
namespace Cert.Router
open Idealize.ShloMosaic Idealize.SL.Sem
open Cert.KernelIdeal Cert.KernelIdeal.Gen
variable (m : (loc : Loc nD τ sig) → Buf (Elt Ideal) loc) (c : Dev nD)

/-- The contents of every buffer after the operations that follow the launch. -/
abbrev tail (b : Ref sig .tc) := Pipeline.afterTail₀ cfgs (dats m) 0 (V0 m) [hostOps1] c b

/-- The arrays of the launch are distinct. -/
theorem arrays_apart : Function.Injective (Pipeline.arrRef (cfgs 0).spec) := by decide +kernel

/-- The array of group weights, as the launch leaves it. -/
theorem left_mix : Pipeline.withArrays (cfgs 0).spec c (V0 m c) (fun w => (dats m 0 c).arrAt w (cfgs 0).N) (Proc.tc.devRef main_v77_0)
    = mixArray m c :=
  (Pipeline.withArrays_arr (cfgs 0).spec arrays_apart c (V0 m c) (fun w => (dats m 0 c).arrAt w (cfgs 0).N) 6).trans (array6 m c)

/-- The array of corner weights, as the launch leaves it. -/
theorem left_hexa : Pipeline.withArrays (cfgs 0).spec c (V0 m c) (fun w => (dats m 0 c).arrAt w (cfgs 0).N) (Proc.tc.devRef main_v77_1)
    = hexaArray m c :=
  (Pipeline.withArrays_arr (cfgs 0).spec arrays_apart c (V0 m c) (fun w => (dats m 0 c).arrAt w (cfgs 0).N) 7).trans (array7 m c)

/-- The array of partial sums, as the launch leaves it. -/
theorem left_sum : Pipeline.withArrays (cfgs 0).spec c (V0 m c) (fun w => (dats m 0 c).arrAt w (cfgs 0).N) (Proc.tc.devRef main_v77_2)
    = sumArray m c :=
  (Pipeline.withArrays_arr (cfgs 0).spec arrays_apart c (V0 m c) (fun w => (dats m 0 c).arrAt w (cfgs 0).N) 8).trans (array8 m c)

/-- The first result: the group weights, row `4096 b + s` of the launch's array at `(b, s)`. -/
theorem tail_mix (b : Fin 4) (s : Fin 4096) (g : Fin 3) :
    (tail m c main_v99 : FVec Ideal S4x4096x3 .f32) (ix3 b s g) = rowMix m c ⟨b.1 * 4096 + s.1, by omega⟩ g := by
  unfold tail Pipeline.afterTail₀
  simp only [List.flatten_cons, List.flatten_nil, List.append_nil]
  after_reads_at
  rw [left_mix]
  rfl

/-- The second result: the weights of the 64 corners. -/
theorem tail_hexa (b : Fin 4) (s : Fin 4096) (j : Fin 64) :
    (tail m c main_v100 : FVec Ideal S4x4096x64 .f32) (ix3 b s j) = rowHexa m c ⟨b.1 * 4096 + s.1, by omega⟩ ⟨j.1, by omega⟩ := by
  unfold tail Pipeline.afterTail₀
  simp only [List.flatten_cons, List.flatten_nil, List.append_nil]
  after_reads_at
  rw [left_hexa]
  rfl

/-- The partial sums, read at the rows and lanes that the loss takes. -/
theorem sum_mix_at (t : Fin 8) (g : Fin 3) (h : g.1 < 128) : sumArray m c (ix3 t 1 ⟨g.1, h⟩) = ∑ r, rowMix m c (tileRow t r) g := by
  have e1 : ¬ ((ix3 t (1 : Fin 2) (⟨g.1, h⟩ : Fin 128)) 1).1 < 1 := Nat.lt_irrefl 1
  have e2 : ((ix3 t (1 : Fin 2) (⟨g.1, h⟩ : Fin 128)) 2).1 < 3 := g.2
  unfold sumArray
  rw [if_neg e1, dif_pos e2]
  rfl

/-- The partial sums of the corner weights. -/
theorem sum_hexa_at (t : Fin 8) (j : Fin 64) (h : j.1 < 128) : sumArray m c (ix3 t 0 ⟨j.1, h⟩) = ∑ r, rowHexa m c (tileRow t r) ⟨j.1, h⟩ := by
  have e1 : ((ix3 t (0 : Fin 2) (⟨j.1, h⟩ : Fin 128)) 1).1 < 1 := Nat.one_pos
  unfold sumArray
  rw [if_pos e1]
  rfl

/-- The third result: the loss, from the tiles' partial sums. -/
theorem tail_loss :
    (tail m c main_v98 : FVec Ideal S_ .f32) ix0 =
      ∑ g : Fin 3, Data.ent ((∑ t, ∑ r, rowMix m c (tileRow t r) g) * Ideal.ofBits .f32 0x38800000#32)
      + Ideal.ofBits .f32 0x3DCCCCCD#32 *
        ∑ j : Fin 64, Data.ent ((∑ t, ∑ r, rowHexa m c (tileRow t r) ⟨j.1, by omega⟩) * Ideal.ofBits .f32 0x38800000#32) := by
  unfold tail Pipeline.afterTail₀
  simp only [List.flatten_cons, List.flatten_nil, List.append_nil]
  after_reads_at
  rw [left_sum]
  unfold Data.ent
  simp only [sum_mix_at, sum_hexa_at]

/-- The run of the kernel's program: its three results as the operations after the launch leave them, and its arguments unchanged. -/
theorem run_tail (ρ : Dev nD → PrngReg) :
    θ_run defs (onTc (τ := τ) (main (F := Ideal))) ⟨m, fun _ => 0, ρ⟩ fun r => ∀ c : Dev nD,
      r.2.mem ((c.tc : Thread nD τ).loc main_v99) = tail m c main_v99
      ∧ r.2.mem ((c.tc : Thread nD τ).loc main_v100) = tail m c main_v100
      ∧ r.2.mem ((c.tc : Thread nD τ).loc main_v98) = tail m c main_v98
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h.1 c).2 main_v99 (Pipeline.mem_restRefs_of main_v99 (by decide) (by decide)),
        (h.1 c).2 main_v100 (Pipeline.mem_restRefs_of main_v100 (by decide) (by decide)),
        (h.1 c).2 main_v98 (Pipeline.mem_restRefs_of main_v98 (by decide) (by decide)), h.2 c⟩)
    (θ_run_and (run_main m ρ) (unchanged m ρ))

end Cert.Router
end
-- ==== Proof.KernelResult.lean ====
module
public import proofs.«01_k».proof.Proof.Meet
public import proofs.«01_k».proof.Proof.Tail
@[expose] public section
/-! # The kernel's run

The three results that the kernel's program leaves are those of `Spec`. -/
set_option maxRecDepth 16384
noncomputable section
namespace Cert.Router
open Idealize.ShloMosaic Idealize.SL.Sem
open Cert.KernelIdeal Cert.KernelIdeal.Gen

/-- A sum over `a * n` places, block by block. -/
theorem sum_blocks (a n : ℕ) (F : Fin (a * n) → EReal) : ∑ R, F R = ∑ t : Fin a, ∑ r : Fin n, F (finProdFinEquiv (t, r)) := by
  rw [← Equiv.sum_comp finProdFinEquiv F, Fintype.sum_prod_type]

/-- The sum over the eight tiles and their rows is the sum over the batch. -/
theorem sum_tiles (f : Fin 4 → Fin 4096 → EReal) :
    ∑ t, ∑ r, f (rowB (tileRow t r)) (rowS (tileRow t r)) = ∑ b, ∑ s, f b s := by
  let F : Fin 16384 → EReal := fun R => f (rowB R) (rowS R)
  have h1 : ∑ R, F R = ∑ t, ∑ r, F (tileRow t r) :=
    (sum_blocks 8 2048 F).trans (Finset.sum_congr rfl fun t _ => Finset.sum_congr rfl fun r _ =>
      congrArg F (Fin.ext (by show r.1 + 2048 * t.1 = t.1 * 2048 + r.1; omega)))
  have h2 : ∑ R, F R = ∑ b, ∑ s, f b s :=
    (sum_blocks 4 4096 F).trans (Finset.sum_congr rfl fun b _ => Finset.sum_congr rfl fun s _ =>
      congrArg₂ f (Fin.ext (by show (s.1 + 4096 * b.1) / 4096 = b.1; omega)) (Fin.ext (by show (s.1 + 4096 * b.1) % 4096 = s.1; omega)))
  exact h1.symm.trans h2

/-- The sum over the tiles times 2⁻¹⁴ is the mean over the batch. -/
theorem mean_tiles (f : Fin 4 → Fin 4096 → EReal) :
    (∑ t, ∑ r, f (rowB (tileRow t r)) (rowS (tileRow t r))) * Ideal.ofBits .f32 0x38800000#32
      = Ideal.div (∑ b, ∑ s, f b s) (Ideal.ofBits .f32 0x46800000#32) := by
  rw [sum_tiles, bits_inv16384, bits_16384, Ideal.div_coe (by norm_num)]

variable (m : (loc : Loc nD τ sig) → Buf (Elt Ideal) loc) (c : Dev nD)

/-- The batch of row `b * 4096 + s` is `b`. -/
theorem rowB_flat (b : Fin 4) (s : Fin 4096) (h : b.1 * 4096 + s.1 < 16384) : rowB ⟨b.1 * 4096 + s.1, h⟩ = b :=
  Fin.ext (by show (b.1 * 4096 + s.1) / 4096 = b.1; omega)

/-- The position of row `b * 4096 + s` is `s`. -/
theorem rowS_flat (b : Fin 4) (s : Fin 4096) (h : b.1 * 4096 + s.1 < 16384) : rowS ⟨b.1 * 4096 + s.1, h⟩ = s :=
  Fin.ext (by show (b.1 * 4096 + s.1) % 4096 = s.1; omega)

/-- The first result: the group weights. -/
theorem tail_mix_eq (hT : (kernelData m c).Tame) : (tail m c main_v99 : FVec Ideal S4x4096x3 .f32) = mixResult (kernelData m c) := by
  funext j
  obtain ⟨b, s, g, rfl⟩ : ∃ b s g, j = ix3 b s g := ⟨j 0, j 1, j 2, eq_ix3 j⟩
  refine (tail_mix m c b s g).trans ((rowMix_eq m c hT _ g).trans ?_)
  rw [rowB_flat, rowS_flat]
  rfl

/-- The second result: the weights of the 64 corners. -/
theorem tail_hexa_eq (hT : (kernelData m c).Tame) : (tail m c main_v100 : FVec Ideal S4x4096x64 .f32) = hexaResult (kernelData m c) := by
  funext j
  obtain ⟨b, s, g, rfl⟩ : ∃ b s g, j = ix3 b s g := ⟨j 0, j 1, j 2, eq_ix3 j⟩
  refine (tail_hexa m c b s g).trans ((rowHexa_eq m c hT _ g).trans ?_)
  rw [rowB_flat, rowS_flat]
  rfl

/-- The third result: the balancing loss. -/
theorem tail_loss_eq (hT : (kernelData m c).Tame) : (tail m c main_v98 : FVec Ideal S_ .f32) = lossResult (kernelData m c) := by
  funext j
  obtain rfl : j = ix0 := funext fun a => a.elim0
  refine (tail_loss m c).trans ?_
  unfold lossResult Data.loss Data.groupMean Data.hexaMean
  refine congrArg₂ (· + ·) (Finset.sum_congr rfl fun g _ => congrArg Data.ent ?_)
    (congrArg (_ * ·) (Finset.sum_congr rfl fun j _ => congrArg Data.ent ?_))
  · rw [← mean_tiles]
    exact congrArg (· * _) (Finset.sum_congr rfl fun t _ => Finset.sum_congr rfl fun r _ => rowMix_eq m c hT _ g)
  · rw [← mean_tiles]
    exact congrArg (· * _) (Finset.sum_congr rfl fun t _ => Finset.sum_congr rfl fun r _ => rowHexa_eq m c hT _ j)

/-- The run of the kernel's program, its three results read. -/
theorem run_kernel (ρ : Dev nD → PrngReg) (hT : ∀ c, (kernelData m c).Tame) :
    θ_run defs (onTc (τ := τ) (main (F := Ideal))) ⟨m, fun _ => 0, ρ⟩ fun r => ∀ c : Dev nD,
      r.2.mem ((c.tc : Thread nD τ).loc main_v99) = mixResult (kernelData m c)
      ∧ r.2.mem ((c.tc : Thread nD τ).loc main_v100) = hexaResult (kernelData m c)
      ∧ r.2.mem ((c.tc : Thread nD τ).loc main_v98) = lossResult (kernelData m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c).1.trans (tail_mix_eq m c (hT c)), (h c).2.1.trans (tail_hexa_eq m c (hT c)), (h c).2.2.1.trans (tail_loss_eq m c (hT c)), (h c).2.2.2⟩)
    (run_tail m ρ)

end Cert.Router
end
-- ==== Proof.RefRead.lean ====
module
public import proofs.«01_k».proof.Proof.Spec
public import proofs.«01_k».proof.Proof.Tables
public import proofs.«01_k».proof.Proof.Gen.ReferenceIdeal.Run
public import Idealize.ShloMosaic.Lib.Pointwise
public import Idealize.ShloMosaic.Lib.Tactic.CleanTypes
@[expose] public section
/-! # The reference's program, read

Each named value of the reference's program, index by index, is the value that `Spec` gives it. -/
set_option maxRecDepth 16384
noncomputable section
namespace Cert.Router
open Idealize.ShloMosaic Idealize.SL.Sem
open Cert.ReferenceIdeal Cert.ReferenceIdeal.Value

/-- A sum over the first two of three axes. -/
theorem sum_batch {n0 n1 n2 : ℕ} (h : (⟨3, ![n0, n1, n2]⟩ : Shape).ReducesTo [0, 1] ⟨1, ![n2]⟩)
    (v : (⟨3, ![n0, n1, n2]⟩ : Shape).Idx → EReal) (d : Fin n2) :
    Ideal.hostReduceAdd h v 0 (ix1 d) = ∑ b, ∑ s, v (ix3 b s d) := by
  unfold Ideal.hostReduceAdd
  rw [zero_add, ← Fintype.sum_prod_type']
  have e : ∀ i ∈ Finset.univ.filter (fun i => h.drop i = ix1 d), ix3 (i 0) (i 1) d = i := fun i hi => by
    have e := (Finset.mem_filter.1 hi).2
    funext a
    match a with
    | ⟨0, _⟩ => rfl
    | ⟨1, _⟩ => rfl
    | ⟨2, _⟩ => exact (congrFun e 0).symm
  refine Finset.sum_nbij' (fun i => ((i 0 : Fin n0), (i 1 : Fin n1))) (fun p => ix3 p.1 p.2 d) (fun _ _ => Finset.mem_univ _)
    (fun p _ => ?_) e (fun _ _ => rfl) (fun i hi => congrArg v (e i hi).symm)
  rw [Finset.mem_filter]
  refine ⟨Finset.mem_univ _, funext fun a => ?_⟩
  match a with
  | ⟨0, _⟩ => rfl

variable (L : Valuation τ sig (Elt Ideal))

/-- The arguments of the reference's program. -/
def refData : Data where
  x := fun b s d => (L (Proc.devRef .tc main_arg0) : FVec Ideal S4x4096x2048 .f32) (ix3 b s d)
  gain := fun d => (L (Proc.devRef .tc main_arg1) : FVec Ideal S2048 .f32) (ix1 d)
  shift := fun d => (L (Proc.devRef .tc main_arg2) : FVec Ideal S2048 .f32) (ix1 d)
  two := fun k d => (L (Proc.devRef .tc main_arg3) : FVec Ideal S2x2048 .f32) (ix2 k d)
  three := fun k d => (L (Proc.devRef .tc main_arg4) : FVec Ideal S3x2048 .f32) (ix2 k d)
  six := fun k d => (L (Proc.devRef .tc main_arg5) : FVec Ideal S6x2048 .f32) (ix2 k d)
  logTemp := (L (Proc.devRef .tc main_arg6) : FVec Ideal S_ .f32) ix0
  scale := fun g => (L (Proc.devRef .tc main_arg7) : FVec Ideal S3 .f32) (ix1 g)
  group := fun v g => (L (Proc.devRef .tc main_arg8) : FVec Ideal S8x3 .f32) (ix2 v g)
  spectral := (L (Proc.devRef .tc main_arg9) : FVec Ideal S_ .f32) ix0

/-- The named values of the reference's program that are read below, as functions of their indices. -/
def refNorm (b : Fin 4) (s : Fin 4096) (d : Fin 2048) : EReal := (res_main_v23 L : FVec Ideal S4x4096x2048 .f32) (ix3 b s d)
/-- The reference's input less its mean. -/
def refCentred (b : Fin 4) (s : Fin 4096) (d : Fin 2048) : EReal := (res_main_v5 L : FVec Ideal S4x4096x2048 .f32) (ix3 b s d)

/-- The reference's normalised row, before it is projected. -/
theorem ref_norm (b : Fin 4) (s : Fin 4096) (w : Fin 2048 → EReal) :
    ∑ d, refNorm L b s d * w d
      = projected ((refData L).x b s) (refData L).gain (refData L).shift w := by
  have h5 : ∀ d, refCentred L b s d
      = (refData L).x b s d - Ideal.div (∑ k, (refData L).x b s k) (Ideal.ofBits .f32 0x45000000#32) := fun d => by
    unfold refCentred res_main_v5 res_main_v3; clean_types; pointwise
    rfl
  unfold projected
  refine Finset.sum_congr rfl fun d _ => congrArg (· * w d) ?_
  simp only [← h5]
  rw [h5]
  unfold refCentred refNorm res_main_v23 res_main_v3; clean_types; pointwise
  rfl

/-- The reference's temperature. -/
theorem ref_temp : (res_main_v25 L : FVec Ideal S_ .f32) ix0 = (refData L).temp := by
  unfold res_main_v25; clean_types; pointwise
  rfl

/-- The reference's logits of the 4 corners. -/
theorem ref_two (b : Fin 4) (s : Fin 4096) (j : Fin 4) :
    (res_main_v32 L : FVec Ideal S4x4096x4 .f32) (ix3 b s j) = (refData L).logit2 b s j := by
  unfold Data.logit2 Data.corner
  rw [← ref_temp]
  simp only [← ref_norm]
  unfold refNorm
  unfold res_main_v32; clean_types; pointwise
  rfl

/-- The reference's logits of the 8 corners. -/
theorem ref_three (b : Fin 4) (s : Fin 4096) (j : Fin 8) :
    (res_main_v51 L : FVec Ideal S4x4096x8 .f32) (ix3 b s j) = (refData L).logit3 b s j := by
  unfold Data.logit3 Data.corner
  rw [← ref_temp]
  simp only [← ref_norm]
  unfold refNorm
  unfold res_main_v51; clean_types; pointwise
  rfl

/-- The reference's logits of the 64 corners. -/
theorem ref_six (b : Fin 4) (s : Fin 4096) (j : Fin 64) :
    (res_main_v81 L : FVec Ideal S4x4096x64 .f32) (ix3 b s j) = (refData L).logit6 b s j := by
  unfold Data.logit6 Data.corner
  rw [← ref_temp]
  simp only [← ref_norm]
  unfold refNorm
  unfold res_main_v81 res_main_cst; clean_types; pointwise
  rfl
end Cert.Router
end
-- ==== Proof.RefValue.lean ====
module
public import proofs.«01_k».proof.Proof.Reals
public import proofs.«01_k».proof.Proof.RefRead
@[expose] public section
/-! # The reference's results

The three results of the reference's program, index by index. -/
set_option maxRecDepth 16384
noncomputable section
namespace Cert.Router
open Idealize.ShloMosaic Idealize.SL.Sem
open Cert.ReferenceIdeal Cert.ReferenceIdeal.Value
variable (L : Valuation τ sig (Elt Ideal))

/-- The exponentials behind the softmax of the 4 corners. -/
def exp2 (b : Fin 4) (s : Fin 4096) (j : Fin 4) : EReal := (res_main_v39 L : FVec Ideal S4x4096x4 .f32) (ix3 b s j)
/-- The exponentials behind the softmax of the 8 corners. -/
def exp3 (b : Fin 4) (s : Fin 4096) (j : Fin 8) : EReal := (res_main_v58 L : FVec Ideal S4x4096x8 .f32) (ix3 b s j)
/-- The exponentials behind the softmax of the 64 corners. -/
def exp6 (b : Fin 4) (s : Fin 4096) (j : Fin 64) : EReal := (res_main_v88 L : FVec Ideal S4x4096x64 .f32) (ix3 b s j)
/-- The exponentials behind the mixing weights. -/
def expScale (g : Fin 3) : EReal := (res_main_v112 L : FVec Ideal S3 .f32) (ix1 g)
/-- The exponentials behind the group weights of the 8 corners. -/
def expGroup (v : Fin 8) (g : Fin 3) : EReal := (res_main_v69 L : FVec Ideal S8x3 .f32) (ix2 v g)
/-- The exponentials behind the last softmax. -/
def expMix (b : Fin 4) (s : Fin 4096) (g : Fin 3) : EReal := (res_main_v137 L : FVec Ideal S4x4096x3 .f32) (ix3 b s g)

/-- The softmax of the 4 corners, as shares. -/
theorem ref_exp2 (b : Fin 4) (s : Fin 4096) (j : Fin 4) :
    Ideal.div (exp2 L b s j) (∑ k, exp2 L b s k) = (share ((refData L).logit2 b s) j : EReal) := by
  rw [← softmax_div _ (fun j => ((refData L).logit2_real b s j).ne_top) ⟨0, ((refData L).logit2_real b s 0).ne_bot⟩]
  have h : ∀ j, exp2 L b s j = Ideal.exp ((refData L).logit2 b s j - max ⊥ (Finset.fold max ⊥ ((refData L).logit2 b s) Finset.univ)) := fun j => by
    rw [← ref_two, ← bits_neg_inf, show (refData L).logit2 b s = fun j => (res_main_v32 L : FVec Ideal S4x4096x4 .f32) (ix3 b s j) from
      funext fun j => (ref_two L b s j).symm]
    unfold exp2 res_main_v39; clean_types; pointwise
  simp only [h]

/-- The softmax of the 8 corners, as shares. -/
theorem ref_exp3 (b : Fin 4) (s : Fin 4096) (j : Fin 8) :
    Ideal.div (exp3 L b s j) (∑ k, exp3 L b s k) = (share ((refData L).logit3 b s) j : EReal) := by
  rw [← softmax_div _ (fun j => ((refData L).logit3_real b s j).ne_top) ⟨0, ((refData L).logit3_real b s 0).ne_bot⟩]
  have h : ∀ j, exp3 L b s j = Ideal.exp ((refData L).logit3 b s j - max ⊥ (Finset.fold max ⊥ ((refData L).logit3 b s) Finset.univ)) := fun j => by
    rw [← ref_three, ← bits_neg_inf, show (refData L).logit3 b s = fun j => (res_main_v51 L : FVec Ideal S4x4096x8 .f32) (ix3 b s j) from
      funext fun j => (ref_three L b s j).symm]
    unfold exp3 res_main_v58; clean_types; pointwise
  simp only [h]

/-- The softmax of the 64 corners, as shares. -/
theorem ref_exp6 (b : Fin 4) (s : Fin 4096) (j : Fin 64) :
    Ideal.div (exp6 L b s j) (∑ k, exp6 L b s k) = ((refData L).hexaWeight b s j : EReal) := by
  unfold Data.hexaWeight
  rw [← softmax_div _ (fun j => ((refData L).logit6_real b s j).ne_top) ⟨0, ((refData L).logit6_real b s 0).ne_bot⟩]
  have h : ∀ j, exp6 L b s j = Ideal.exp ((refData L).logit6 b s j - max ⊥ (Finset.fold max ⊥ ((refData L).logit6 b s) Finset.univ)) := fun j => by
    rw [← ref_six, ← bits_neg_inf, show (refData L).logit6 b s = fun j => (res_main_v81 L : FVec Ideal S4x4096x64 .f32) (ix3 b s j) from
      funext fun j => (ref_six L b s j).symm]
    unfold exp6 res_main_v88; clean_types; pointwise
  simp only [h]

/-- The softmax of the mixing logits, as shares. -/
theorem ref_expScale (hT : (refData L).Tame) (g : Fin 3) :
    Ideal.div (expScale L g) (∑ k, expScale L k) = (share (refData L).scale g : EReal) := by
  rw [← softmax_div _ hT.scale_top hT.scale_bot]
  have h : ∀ j, expScale L j = Ideal.exp ((refData L).scale j - max ⊥ (Finset.fold max ⊥ (refData L).scale Finset.univ)) := fun j => by
    rw [← bits_neg_inf]
    unfold expScale res_main_v112; clean_types; pointwise
    rfl
  simp only [h]

/-- The softmax of a corner's group logits, as shares. -/
theorem ref_expGroup (hT : (refData L).Tame) (v : Fin 8) (g : Fin 3) :
    Ideal.div (expGroup L v g) (∑ k, expGroup L v k) = (share ((refData L).group v) g : EReal) := by
  rw [← softmax_div _ (hT.group_top v) (hT.group_bot v)]
  have h : ∀ j, expGroup L v j = Ideal.exp ((refData L).group v j - max ⊥ (Finset.fold max ⊥ ((refData L).group v) Finset.univ)) := fun j => by
    rw [← bits_neg_inf]
    unfold expGroup res_main_v69; clean_types; pointwise
    rfl
  simp only [h]

/-- The second result: the weights of the 64 corners. -/
theorem ref_hexa (b : Fin 4) (s : Fin 4096) (j : Fin 64) :
    (res_main_v92 L : FVec Ideal S4x4096x64 .f32) (ix3 b s j) = ((refData L).hexaWeight b s j : EReal) := by
  rw [← ref_exp6]
  unfold res_main_v92; clean_types; pointwise
  rfl

/-- The reference's gate. -/
theorem ref_gate : (res_main_v100 L : FVec Ideal S_ .f32) ix0 = (refData L).gate := by
  unfold res_main_v100; clean_types; pointwise
  rfl

/-- The reference's mixing weights. -/
theorem ref_mix (hT : (refData L).Tame) (g : Fin 3) : (res_main_v116 L : FVec Ideal S3 .f32) (ix1 g) = (share (refData L).scale g : EReal) := by
  rw [← ref_expScale L hT]
  unfold res_main_v116; clean_types; pointwise
  rfl

/-- The reference's group logits. -/
theorem ref_groupLogit (hT : (refData L).Tame) (b : Fin 4) (s : Fin 4096) (g : Fin 3) :
    (res_main_v130 L : FVec Ideal S4x4096x3 .f32) (ix3 b s g) = (refData L).groupLogit b s g := by
  unfold Data.groupLogit
  simp only [← ref_mix L hT, ← ref_gate, ← ref_exp2, ← ref_exp3, ← ref_expGroup L hT]
  simp only [show ∀ j, (share ((refData L).logit6 b s) j : EReal) = _ from fun j => (ref_hexa L b s j).symm]
  unfold res_main_v130; clean_types; pointwise
  rfl

end Cert.Router
end
-- ==== Proof.RefResult.lean ====
module
public import proofs.«01_k».proof.Proof.RefValue
@[expose] public section
/-! # The reference's run

The three results that the reference's program leaves: the group weights, the corner weights and the balancing loss of `Spec`. -/
set_option maxRecDepth 16384
noncomputable section
namespace Cert.Router
open Idealize.ShloMosaic Idealize.SL.Sem Idealize.ShloMosaic.StableHlo
open Cert.ReferenceIdeal Cert.ReferenceIdeal.Value
variable (L : Valuation τ sig (Elt Ideal))

/-- The last softmax of the reference, as shares. -/
theorem ref_expMix (hT : (refData L).Tame) (b : Fin 4) (s : Fin 4096) (g : Fin 3) :
    Ideal.div (expMix L b s g) (∑ k, expMix L b s k) = ((refData L).groupWeight b s g : EReal) := by
  unfold Data.groupWeight
  rw [← softmax_div _ (fun j => ((refData L).groupLogit_real b s j).ne_top) ⟨0, ((refData L).groupLogit_real b s 0).ne_bot⟩]
  have h : ∀ j, expMix L b s j = Ideal.exp ((refData L).groupLogit b s j - max ⊥ (Finset.fold max ⊥ ((refData L).groupLogit b s) Finset.univ)) := fun j => by
    rw [← ref_groupLogit L hT, ← bits_neg_inf, show (refData L).groupLogit b s = fun j => (res_main_v130 L : FVec Ideal S4x4096x3 .f32) (ix3 b s j) from
      funext fun j => (ref_groupLogit L hT b s j).symm]
    unfold expMix res_main_v137; clean_types; pointwise
  simp only [h]

/-- The quotient that the program forms of the exponentials and their sums. -/
def mixQuot : FVec Ideal S4x4096x3 .f32 :=
  Host.divf (res_main_v137 L) (broadcastInDim S4x4096x3 ![0, 1, 2] Gen.bcast_S4x4096x1_S4x4096x3_0_1_2 (broadcastInDim S4x4096x1 ![0, 1] Gen.bcast_S4x4096_S4x4096x1_0_1 (Host.reduceAdd (res_main_v137 L) (constant S_ .f32 0x00000000#32) Gen.reducesTo_S4x4096x3_S4x4096_d2 Gen.h_S_)))

/-- The first result: the weights of the three groups. -/
theorem ref_quot (hT : (refData L).Tame) (b : Fin 4) (s : Fin 4096) (g : Fin 3) :
    mixQuot L (ix3 b s g) = ((refData L).groupWeight b s g : EReal) := by
  rw [← ref_expMix L hT]
  unfold mixQuot; pointwise
  rfl

/-- The reference's mean group weights. -/
theorem ref_groupMean (hT : (refData L).Tame) (g : Fin 3) :
    (res_main_v144 L : FVec Ideal S3 .f32) (ix1 g) = (refData L).groupMean g := by
  unfold Data.groupMean
  simp only [← ref_quot L hT]
  rw [← sum_batch Gen.reducesTo_S4x4096x3_S3_d0_1]
  unfold res_main_v144 mixQuot; clean_types; pointwise

/-- The reference's mean weights of the 64 corners. -/
theorem ref_hexaMean (g : Fin 64) :
    (res_main_v147 L : FVec Ideal S64 .f32) (ix1 g) = (refData L).hexaMean g := by
  unfold Data.hexaMean
  simp only [← ref_hexa L]
  rw [← sum_batch Gen.reducesTo_S4x4096x64_S64_d0_1]
  unfold res_main_v147; clean_types; pointwise

/-- The third result: the balancing loss. -/
theorem ref_loss (hT : (refData L).Tame) :
    (addf (Host.reduceAdd (mulf (res_main_v144 L) (Host.log (addf (res_main_v144 L) (broadcastInDim S3 ![] Gen.bcast_S_S3 (constant S_ .f32 0x322BCC77#32))))) (constant S_ .f32 0x00000000#32) Gen.reducesTo_S3_S_d0 Gen.h_S_) (mulf (constant S_ .f32 0x3DCCCCCD#32) (Host.reduceAdd (mulf (res_main_v147 L) (Host.log (addf (res_main_v147 L) (broadcastInDim S64 ![] Gen.bcast_S_S64 (constant S_ .f32 0x322BCC77#32))))) (constant S_ .f32 0x00000000#32) Gen.reducesTo_S64_S_d0 Gen.h_S_)) : FVec Ideal S_ .f32)
      = lossResult (refData L) := by
  funext j
  obtain rfl : j = ix0 := funext fun a => a.elim0
  unfold lossResult Data.loss Data.ent
  simp only [← ref_groupMean L hT, ← ref_hexaMean L]
  pointwise

/-- The run of the reference's program, its three results read. -/
theorem run_ref (m : (loc : Loc nD τ sig) → Buf (Elt Ideal) loc) (ρ : Dev nD → PrngReg) (hT : ∀ c, (refData (launchContents m c)).Tame) :
    θ_run defs (onTc (τ := τ) (main (F := Ideal))) ⟨m, fun _ => 0, ρ⟩ fun r => ∀ c : Dev nD,
      r.2.mem ((c.tc : Thread nD τ).loc main_v141) = mixResult (refData (launchContents m c))
      ∧ r.2.mem ((c.tc : Thread nD τ).loc main_v92) = hexaResult (refData (launchContents m c))
      ∧ r.2.mem ((c.tc : Thread nD τ).loc main_v159) = lossResult (refData (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Cert.ReferenceIdeal.Value.run m ρ)
  obtain ⟨h1, h2, h3, h4⟩ := h c
  refine ⟨h1.trans ?_, h2.trans ?_, h3.trans (ref_loss _ (hT c)), h4⟩
  · funext j
    obtain ⟨b, s, g, rfl⟩ : ∃ b s g, j = ix3 b s g := ⟨j 0, j 1, j 2, eq_ix3 j⟩
    exact ref_quot _ (hT c) b s g
  · funext j
    obtain ⟨b, s, g, rfl⟩ : ∃ b s g, j = ix3 b s g := ⟨j 0, j 1, j 2, eq_ix3 j⟩
    exact ref_hexa _ b s g
end Cert.Router
end
-- ==== Proof.Claims.lean ====
module
public import proofs.«01_k».proof.Proof.PreFacts
public import proofs.«01_k».proof.Proof.KernelResult
public import proofs.«01_k».proof.Proof.RefResult
public import proofs.«01_k».proof.Proof.Gen.Kernel.Frame
@[expose] public section
/-! # The claims, one by one -/
set_option maxRecDepth 16384
noncomputable section
namespace Cert.Router
open Idealize.ShloMosaic Idealize.SL.Sem Idealize.ShloMosaic.StableHlo

/-- The kernel's program runs and leaves its arguments and its counters as they were. -/
theorem frame_p : letI := Cert.Kernel.Gen.facts; Cert.quiescent_Kernel := fun m ρ _ => Cert.Kernel.Gen.frame m ρ

/-- So does its ideal form. -/
theorem frame_pi : letI := Cert.KernelIdeal.Gen.facts; Cert.quiescent_KernelIdeal := fun m ρ _ => Cert.KernelIdeal.Gen.frame m ρ

/-- And under the precondition. -/
theorem frame_pi_tame : letI := Cert.KernelIdeal.Gen.facts; letI := tame_facts; Cert.quiescent_KernelIdeal_pre_tame :=
  fun m ρ _ => Cert.KernelIdeal.Gen.frame m ρ

/-- The reference runs and leaves its arguments and its counters as they were. -/
theorem frame_ri : letI := Cert.ReferenceIdeal.Gen.facts; Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- And under the precondition. -/
theorem frame_ri_tame : letI := Cert.ReferenceIdeal.Gen.facts; letI := tame_facts; Cert.quiescent_ReferenceIdeal_pre_tame :=
  fun m ρ _ => frame_ri m ρ trivial

/-- The one constant of the kernel that carries a name: the mask's `-1e30` is minus infinity. -/
theorem preserves : Cert.preserves_Kernel_KernelIdeal :=
  IdealRules.named_const.statement Cert.KernelIdeal.κ "mask" .f32 0xF149F2CA#32 ⊥ rfl

/-- The reference's arguments, where they agree with the kernel's. -/
theorem data_agree (m : (loc : Loc Cert.KernelIdeal.nD Cert.KernelIdeal.τ Cert.KernelIdeal.sig) → Buf (Elt Ideal) loc)
    (m' : (loc : Loc Cert.ReferenceIdeal.nD Cert.ReferenceIdeal.τ Cert.ReferenceIdeal.sig) → Buf (Elt Ideal) loc)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) :
    refData (launchContents m' c) = kernelData m c := by
  unfold refData kernelData
  congr 1
  · exact funext fun b => funext fun s => funext fun d => congrFun h0 (ix3 b s d)
  · exact funext fun d => congrFun h1 (ix1 d)
  · exact funext fun d => congrFun h2 (ix1 d)
  · exact funext fun k => funext fun d => congrFun h3 (ix2 k d)
  · exact funext fun k => funext fun d => congrFun h4 (ix2 k d)
  · exact funext fun k => funext fun d => congrFun h5 (ix2 k d)
  · exact congrFun h6 ix0
  · exact funext fun g => congrFun h7 (ix1 g)
  · exact funext fun v => funext fun g => congrFun h8 (ix2 v g)
  · exact congrFun h9 ix0

/-- Over the extended reals, from arguments that agree and meet the precondition, the kernel's program and the reference end with the
    same three results. -/
theorem algebraic : letI := Cert.KernelIdeal.Gen.facts; letI := Cert.ReferenceIdeal.Gen.facts; letI := tame_facts
    Cert.algebraic_KernelIdeal_ReferenceIdeal_pre_tame := by
  intro m ρ m' ρ' hP hA
  have hT : ∀ c, (kernelData m c).Tame := fun c => letI := tame_facts; kernel_tame m hP c
  have hD : ∀ c, refData (launchContents m' c) = kernelData m c := fun c => by
    obtain ⟨h0, h1, h2, h3, h4, h5, h6, h7, h8, h9⟩ := hA c
    exact data_agree m m' c h0 h1 h2 h3 h4 h5 h6 h7 h8 h9
  refine ⟨fun c => mixResult (kernelData m c), fun c => hexaResult (kernelData m c), fun c => lossResult (kernelData m c),
    run_kernel m ρ hT, ?_⟩
  refine (θ_run Cert.ReferenceIdeal.defs _ _).mono (fun _ h c => ?_) (run_ref m' ρ' fun c => (hD c).symm ▸ hT c)
  exact ⟨(h c).1.trans (congrArg mixResult (hD c)), (h c).2.1.trans (congrArg hexaResult (hD c)),
    (h c).2.2.1.trans (congrArg lossResult (hD c)), (h c).2.2.2⟩

end Cert.Router
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Router.tame_facts,
    Cert.Router.frame_p, Cert.Router.frame_pi, Cert.Router.frame_pi_tame, Cert.Router.frame_ri, Cert.Router.frame_ri_tame,
    Cert.Router.preserves, Cert.Router.algebraic⟩

end Cert.Proof

end
